-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S64x3x512x512 : Shape := ⟨4, ![64, 3, 512, 512]⟩
abbrev S16x3x10x10 : Shape := ⟨4, ![16, 3, 10, 10]⟩
abbrev S16 : Shape := ⟨1, ![16]⟩
abbrev S5x16x1x1 : Shape := ⟨4, ![5, 16, 1, 1]⟩
abbrev S5 : Shape := ⟨1, ![5]⟩
abbrev S256x2601 : Shape := ⟨2, ![256, 2601]⟩
abbrev S256 : Shape := ⟨1, ![256]⟩
abbrev S256x256 : Shape := ⟨2, ![256, 256]⟩
abbrev S128x256 : Shape := ⟨2, ![128, 256]⟩
abbrev S128 : Shape := ⟨1, ![128]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S256x2601 : S_.BroadcastsInDim S256x2601 (![] : Fin 0 → Fin S256x2601.rank)
  reducesTo_S256x2601_S_d0_1 : S256x2601.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg10
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x3x512x512 .f32) (main_arg1 : FVec F S16x3x10x10 .f32) (main_arg2 : FVec F S16 .f32) (main_arg3 : FVec F S16 .f32) (main_arg4 : FVec F S16 .f32) (main_arg5 : FVec F S5x16x1x1 .f32) (main_arg6 : FVec F S5 .f32) (main_arg7 : FVec F S256x2601 .f32) (main_arg8 : FVec F S256 .f32) (main_arg9 : FVec F S256x256 .f32) (main_arg10 : FVec F S256 .f32) (main_arg11 : FVec F S256 .f32) (main_arg12 : FVec F S256 .f32) (main_arg13 : FVec F S128x256 .f32) (main_arg14 : FVec F S128 .f32) : IVec S_ 1 :=
  let main_v0 : FVec F S16 .f32 := Host.absf main_arg3
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S256x2601 .f32 := Host.absf main_arg7
  let main_cst_0 : FVec F S_ .f32 := constant S_ .f32 0x7F800000#32
  let main_v5 : FVec F S256x2601 .f32 := broadcastInDim S256x2601 ![] bcast_S_S256x2601 main_cst_0
  let main_v6 : IVec S256x2601 1 := cmpf .olt main_v4 main_v5
  let main_c_1 : IVec S_ 1 := constantI S_ 1 1#1
  let main_v7 : IVec S_ 1 := (fun x v => Host.reduce IntOp.andi x v reducesTo_S256x2601_S_d0_1 h_S_) main_v6 main_c_1
  let main_v8 : IVec S_ 1 := andi main_v3 main_v7
  let main_v9 : FVec F S256 .f32 := Host.absf main_arg8
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg9
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg10 main_v13 main_v16
-- ==== Kernel.lean ====
abbrev S64x3x512x512 : Shape := ⟨4, ![64, 3, 512, 512]⟩
abbrev S16x3x10x10 : Shape := ⟨4, ![16, 3, 10, 10]⟩
abbrev S16 : Shape := ⟨1, ![16]⟩
abbrev S5x16x1x1 : Shape := ⟨4, ![5, 16, 1, 1]⟩
abbrev S5 : Shape := ⟨1, ![5]⟩
abbrev S256x2601 : Shape := ⟨2, ![256, 2601]⟩
abbrev S256 : Shape := ⟨1, ![256]⟩
abbrev S256x256 : Shape := ⟨2, ![256, 256]⟩
abbrev S128x256 : Shape := ⟨2, ![128, 256]⟩
abbrev S128 : Shape := ⟨1, ![128]⟩
abbrev S16x300 : Shape := ⟨2, ![16, 300]⟩
abbrev S16x1 : Shape := ⟨2, ![16, 1]⟩
abbrev S64x16x2601 : Shape := ⟨3, ![64, 16, 2601]⟩
abbrev S1x3x512x512 : Shape := ⟨4, ![1, 3, 512, 512]⟩
abbrev S1x16x2601 : Shape := ⟨3, ![1, 16, 2601]⟩
abbrev S3x512x512 : Shape := ⟨3, ![3, 512, 512]⟩
abbrev S3x510x510 : Shape := ⟨3, ![3, 510, 510]⟩
abbrev S3x51x10x51x10 : Shape := ⟨5, ![3, 51, 10, 51, 10]⟩
abbrev S3x10x10x51x51 : Shape := ⟨5, ![3, 10, 10, 51, 51]⟩
abbrev S300x2601 : Shape := ⟨2, ![300, 2601]⟩
abbrev S16x2601 : Shape := ⟨2, ![16, 2601]⟩
abbrev S_ : Shape := ⟨0, ![]⟩
abbrev S5x16 : Shape := ⟨2, ![5, 16]⟩
abbrev S5x1x1 : Shape := ⟨3, ![5, 1, 1]⟩
abbrev S2601x256 : Shape := ⟨2, ![2601, 256]⟩
abbrev S1x256 : Shape := ⟨2, ![1, 256]⟩
abbrev S256x128 : Shape := ⟨2, ![256, 128]⟩
abbrev S1x128 : Shape := ⟨2, ![1, 128]⟩
abbrev S320x128 : Shape := ⟨2, ![320, 128]⟩
abbrev S1x16x1 : Shape := ⟨3, ![1, 16, 1]⟩
abbrev S5x64x2601 : Shape := ⟨3, ![5, 64, 2601]⟩
abbrev S320x2601 : Shape := ⟨2, ![320, 2601]⟩
abbrev S320x256 : Shape := ⟨2, ![320, 256]⟩
abbrev S320 : Shape := ⟨1, ![320]⟩
abbrev S320x1 : Shape := ⟨2, ![320, 1]⟩
abbrev S5x64x128 : Shape := ⟨3, ![5, 64, 128]⟩
abbrev S64x5x128 : Shape := ⟨3, ![64, 5, 128]⟩

abbrev nBuf : Space → Nat
  | .hbm => 51
  | .vmem => 22
  | .smem => 0
  | _ => 0

abbrev bufTy : (tb : Table) → Fin (tcTables nBuf tb) → BufTy
  | .hbm, ⟨0, _⟩ => ⟨S64x3x512x512, .f32⟩
  | .hbm, ⟨1, _⟩ => ⟨S16x3x10x10, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S5x16x1x1, .f32⟩
  | .hbm, ⟨6, _⟩ => ⟨S5, .f32⟩
  | .hbm, ⟨7, _⟩ => ⟨S256x2601, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S128x256, .f32⟩
  | .hbm, ⟨14, _⟩ => ⟨S128, .f32⟩
  | .hbm, ⟨15, _⟩ => ⟨S16x300, .f32⟩
  | .hbm, ⟨16, _⟩ => ⟨S16x300, .bf16⟩
  | .hbm, ⟨17, _⟩ => ⟨S16x1, .f32⟩
  | .hbm, ⟨18, _⟩ => ⟨S64x16x2601, .f32⟩
  | .hbm, ⟨19, _⟩ => ⟨S16x1, .f32⟩
  | .hbm, ⟨20, _⟩ => ⟨S16x1, .f32⟩
  | .hbm, ⟨21, _⟩ => ⟨S_, .f32⟩
  | .hbm, ⟨22, _⟩ => ⟨S16x1, .f32⟩
  | .hbm, ⟨23, _⟩ => ⟨S16x1, .f32⟩
  | .hbm, ⟨24, _⟩ => ⟨S_, .f32⟩
  | .hbm, ⟨25, _⟩ => ⟨S16x1, .f32⟩
  | .hbm, ⟨26, _⟩ => ⟨S16x1, .f32⟩
  | .hbm, ⟨27, _⟩ => ⟨S16x1, .f32⟩
  | .hbm, ⟨28, _⟩ => ⟨S16x1, .f32⟩
  | .hbm, ⟨29, _⟩ => ⟨S16x1, .f32⟩
  | .hbm, ⟨30, _⟩ => ⟨S_, .f32⟩
  | .hbm, ⟨31, _⟩ => ⟨S16x1, .f32⟩
  | .hbm, ⟨32, _⟩ => ⟨S16x1, .f32⟩
  | .hbm, ⟨33, _⟩ => ⟨S16x1, .f32⟩
  | .hbm, ⟨34, _⟩ => ⟨S16x1, .f32⟩
  | .hbm, ⟨35, _⟩ => ⟨S16x1, .f32⟩
  | .hbm, ⟨36, _⟩ => ⟨S16x1, .f32⟩
  | .hbm, ⟨37, _⟩ => ⟨S16x1, .f32⟩
  | .hbm, ⟨38, _⟩ => ⟨S5x16, .f32⟩
  | .hbm, ⟨39, _⟩ => ⟨S5x1x1, .f32⟩
  | .hbm, ⟨40, _⟩ => ⟨S2601x256, .f32⟩
  | .hbm, ⟨41, _⟩ => ⟨S1x256, .f32⟩
  | .hbm, ⟨42, _⟩ => ⟨S256x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S256x128, .f32⟩
  | .hbm, ⟨47, _⟩ => ⟨S1x128, .f32⟩
  | .hbm, ⟨48, _⟩ => ⟨S320x128, .f32⟩
  | .hbm, ⟨49, _⟩ => ⟨S5x64x128, .f32⟩
  | .hbm, ⟨50, _⟩ => ⟨S64x5x128, .f32⟩
  | .local _ .vmem, ⟨0, _⟩ => ⟨S1x3x512x512, .f32⟩
  | .local _ .vmem, ⟨1, _⟩ => ⟨S1x3x512x512, .f32⟩
  | .local _ .vmem, ⟨2, _⟩ => ⟨S16x300, .bf16⟩
  | .local _ .vmem, ⟨3, _⟩ => ⟨S16x1, .f32⟩
  | .local _ .vmem, ⟨4, _⟩ => ⟨S1x16x2601, .f32⟩
  | .local _ .vmem, ⟨5, _⟩ => ⟨S1x16x2601, .f32⟩
  | .local _ .vmem, ⟨6, _⟩ => ⟨S16x1, .f32⟩
  | .local _ .vmem, ⟨7, _⟩ => ⟨S16x1, .f32⟩
  | .local _ .vmem, ⟨8, _⟩ => ⟨S64x16x2601, .f32⟩
  | .local _ .vmem, ⟨9, _⟩ => ⟨S16x1, .f32⟩
  | .local _ .vmem, ⟨10, _⟩ => ⟨S16x1, .f32⟩
  | .local _ .vmem, ⟨11, _⟩ => ⟨S5x16, .f32⟩
  | .local _ .vmem, ⟨12, _⟩ => ⟨S5x1x1, .f32⟩
  | .local _ .vmem, ⟨13, _⟩ => ⟨S2601x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x128, .f32⟩
  | .local _ .vmem, ⟨20, _⟩ => ⟨S1x128, .f32⟩
  | .local _ .vmem, ⟨21, _⟩ => ⟨S320x128, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x300 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x2601 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

abbrev stage1_0 : Fin 1 → Memref sig .tc .vmem S64x16x2601 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S5x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S5x1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2601x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S256x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S320x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
-- ==== ReferenceIdeal.lean ====
abbrev S64x3x512x512 : Shape := ⟨4, ![64, 3, 512, 512]⟩
abbrev S16x3x10x10 : Shape := ⟨4, ![16, 3, 10, 10]⟩
abbrev S16 : Shape := ⟨1, ![16]⟩
abbrev S5x16x1x1 : Shape := ⟨4, ![5, 16, 1, 1]⟩
abbrev S5 : Shape := ⟨1, ![5]⟩
abbrev S256x2601 : Shape := ⟨2, ![256, 2601]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x3x510x510 : Shape := ⟨4, ![64, 3, 510, 510]⟩
abbrev S64x3x51x10x51x10 : Shape := ⟨6, ![64, 3, 51, 10, 51, 10]⟩
abbrev S16x64x51x51 : Shape := ⟨4, ![16, 64, 51, 51]⟩
abbrev S64x16x51x51 : Shape := ⟨4, ![64, 16, 51, 51]⟩
abbrev S1x16x1x1 : Shape := ⟨4, ![1, 16, 1, 1]⟩
abbrev S_ : Shape := ⟨0, ![]⟩
abbrev S5x16 : Shape := ⟨2, ![5, 16]⟩
abbrev S5x64x51x51 : Shape := ⟨4, ![5, 64, 51, 51]⟩
abbrev S64x5x51x51 : Shape := ⟨4, ![64, 5, 51, 51]⟩
abbrev S1x5x1x1 : Shape := ⟨4, ![1, 5, 1, 1]⟩
abbrev S64x5x2601 : Shape := ⟨3, ![64, 5, 2601]⟩
abbrev S2601x256 : Shape := ⟨2, ![2601, 256]⟩
abbrev S64x5x256 : Shape := ⟨3, ![64, 5, 256]⟩
abbrev S1x1x256 : Shape := ⟨3, ![1, 1, 256]⟩
abbrev S64x5 : Shape := ⟨2, ![64, 5]⟩
abbrev S64x5x1 : Shape := ⟨3, ![64, 5, 1]⟩
abbrev S256x128 : Shape := ⟨2, ![256, 128]⟩
abbrev S64x5x128 : Shape := ⟨3, ![64, 5, 128]⟩
abbrev S1x1x128 : Shape := ⟨3, ![1, 1, 128]⟩

abbrev nBuf : Space → Nat
  | .hbm => 149
  | .vmem => 0
  | .smem => 0
  | _ => 0

abbrev hbmTy0_0 (i : Nat) : BufTy := match i % 128 with
  | 0 => ⟨S64x3x512x512, .f32⟩
  | 1 => ⟨S16x3x10x10, .f32⟩
  | 2 => ⟨S16, .f32⟩
  | 3 => ⟨S16, .f32⟩
  | 4 => ⟨S16, .f32⟩
  | 5 => ⟨S5x16x1x1, .f32⟩
  | 6 => ⟨S5, .f32⟩
  | 7 => ⟨S256x2601, .f32⟩
  | 8 => ⟨S256, .f32⟩
  | 9 => ⟨S256x256, .f32⟩
  | 10 => ⟨S256, .f32⟩
  | 11 => ⟨S256, .f32⟩
  | 12 => ⟨S256, .f32⟩
  | 13 => ⟨S128x256, .f32⟩
  | 14 => ⟨S128, .f32⟩
  | 15 => ⟨S64x3x510x510, .f32⟩
  | 16 => ⟨S64x3x51x10x51x10, .f32⟩
  | 17 => ⟨S16x64x51x51, .f32⟩
  | 18 => ⟨S64x16x51x51, .f32⟩
  | 19 => ⟨S1x16x1x1, .f32⟩
  | 20 => ⟨S64x16x51x51, .f32⟩
  | 21 => ⟨S64x16x51x51, .f32⟩
  | 22 => ⟨S_, .f32⟩
  | 23 => ⟨S16, .f32⟩
  | 24 => ⟨S1x16x1x1, .f32⟩
  | 25 => ⟨S_, .f32⟩
  | 26 => ⟨S1x16x1x1, .f32⟩
  | 27 => ⟨S1x16x1x1, .f32⟩
  | 28 => ⟨S_, .i32⟩
  | 29 => ⟨S_, .f32⟩
  | 30 => ⟨S16, .f32⟩
  | 31 => ⟨S1x16x1x1, .f32⟩
  | 32 => ⟨S_, .f32⟩
  | 33 => ⟨S1x16x1x1, .f32⟩
  | 34 => ⟨S1x16x1x1, .f32⟩
  | 35 => ⟨S64x16x51x51, .f32⟩
  | 36 => ⟨S64x16x51x51, .f32⟩
  | 37 => ⟨S64x16x51x51, .f32⟩
  | 38 => ⟨S_, .f32⟩
  | 39 => ⟨S_, .f32⟩
  | 40 => ⟨S_, .f32⟩
  | 41 => ⟨S_, .f32⟩
  | 42 => ⟨S16, .f32⟩
  | 43 => ⟨S1x16x1x1, .f32⟩
  | 44 => ⟨S1x16x1x1, .f32⟩
  | 45 => ⟨S1x16x1x1, .f32⟩
  | 46 => ⟨S_, .f32⟩
  | 47 => ⟨S_, .i1⟩
  | 48 => ⟨S_, .f32⟩
  | 49 => ⟨S_, .f32⟩
  | 50 => ⟨S1x16x1x1, .f32⟩
  | 51 => ⟨S1x16x1x1, .f32⟩
  | 52 => ⟨S64x16x51x51, .f32⟩
  | 53 => ⟨S64x16x51x51, .f32⟩
  | 54 => ⟨S_, .f32⟩
  | 55 => ⟨S1x16x1x1, .f32⟩
  | 56 => ⟨S1x16x1x1, .f32⟩
  | 57 => ⟨S1x16x1x1, .f32⟩
  | 58 => ⟨S64x16x51x51, .f32⟩
  | 59 => ⟨S64x16x51x51, .f32⟩
  | 60 => ⟨S1x16x1x1, .f32⟩
  | 61 => ⟨S64x16x51x51, .f32⟩
  | 62 => ⟨S64x16x51x51, .f32⟩
  | 63 => ⟨S1x16x1x1, .f32⟩
  | 64 => ⟨S64x16x51x51, .f32⟩
  | 65 => ⟨S64x16x51x51, .f32⟩
  | 66 => ⟨S_, .f32⟩
  | 67 => ⟨S64x16x51x51, .f32⟩
  | 68 => ⟨S64x16x51x51, .f32⟩
  | 69 => ⟨S5x16, .f32⟩
  | 70 => ⟨S5x64x51x51, .f32⟩
  | 71 => ⟨S64x5x51x51, .f32⟩
  | 72 => ⟨S1x5x1x1, .f32⟩
  | 73 => ⟨S64x5x51x51, .f32⟩
  | 74 => ⟨S64x5x51x51, .f32⟩
  | 75 => ⟨S64x5x51x51, .f32⟩
  | 76 => ⟨S64x5x51x51, .f32⟩
  | 77 => ⟨S_, .f32⟩
  | 78 => ⟨S64x5x51x51, .f32⟩
  | 79 => ⟨S64x5x51x51, .f32⟩
  | 80 => ⟨S_, .f32⟩
  | 81 => ⟨S64x5x51x51, .f32⟩
  | 82 => ⟨S64x5x51x51, .f32⟩
  | 83 => ⟨S64x5x2601, .f32⟩
  | 84 => ⟨S2601x256, .f32⟩
  | 85 => ⟨S64x5x256, .f32⟩
  | 86 => ⟨S1x1x256, .f32⟩
  | 87 => ⟨S64x5x256, .f32⟩
  | 88 => ⟨S64x5x256, .f32⟩
  | 89 => ⟨S_, .f32⟩
  | 90 => ⟨S64x5x256, .f32⟩
  | 91 => ⟨S64x5x256, .f32⟩
  | 92 => ⟨S256x256, .f32⟩
  | 93 => ⟨S64x5x256, .f32⟩
  | 94 => ⟨S1x1x256, .f32⟩
  | 95 => ⟨S64x5x256, .f32⟩
  | 96 => ⟨S64x5x256, .f32⟩
  | 97 => ⟨S_, .f32⟩
  | 98 => ⟨S64x5, .f32⟩
  | 99 => ⟨S64x5x1, .f32⟩
  | 100 => ⟨S_, .f32⟩
  | 101 => ⟨S64x5x1, .f32⟩
  | 102 => ⟨S64x5x1, .f32⟩
  | 103 => ⟨S_, .i32⟩
  | 104 => ⟨S_, .f32⟩
  | 105 => ⟨S64x5, .f32⟩
  | 106 => ⟨S64x5x1, .f32⟩
  | 107 => ⟨S_, .f32⟩
  | 108 => ⟨S64x5x1, .f32⟩
  | 109 => ⟨S64x5x1, .f32⟩
  | 110 => ⟨S64x5x256, .f32⟩
  | 111 => ⟨S64x5x256, .f32⟩
  | 112 => ⟨S64x5x256, .f32⟩
  | 113 => ⟨S_, .f32⟩
  | 114 => ⟨S_, .f32⟩
  | 115 => ⟨S_, .f32⟩
  | 116 => ⟨S_, .f32⟩
  | 117 => ⟨S64x5, .f32⟩
  | 118 => ⟨S64x5x1, .f32⟩
  | 119 => ⟨S64x5x1, .f32⟩
  | 120 => ⟨S64x5x1, .f32⟩
  | 121 => ⟨S_, .f32⟩
  | 122 => ⟨S_, .i1⟩
  | 123 => ⟨S_, .f32⟩
  | 124 => ⟨S_, .f32⟩
  | 125 => ⟨S64x5x1, .f32⟩
  | 126 => ⟨S64x5x1, .f32⟩
  | 127 => ⟨S64x5x256, .f32⟩
  | _ => ⟨S64x3x512x512, .f32⟩

abbrev hbmTy0_1 (i : Nat) : BufTy := match i % 128 with
  | 0 => ⟨S64x5x256, .f32⟩
  | 1 => ⟨S_, .f32⟩
  | 2 => ⟨S64x5x1, .f32⟩
  | 3 => ⟨S64x5x1, .f32⟩
  | 4 => ⟨S64x5x1, .f32⟩
  | 5 => ⟨S64x5x256, .f32⟩
  | 6 => ⟨S64x5x256, .f32⟩
  | 7 => ⟨S1x1x256, .f32⟩
  | 8 => ⟨S64x5x256, .f32⟩
  | 9 => ⟨S64x5x256, .f32⟩
  | 10 => ⟨S1x1x256, .f32⟩
  | 11 => ⟨S64x5x256, .f32⟩
  | 12 => ⟨S64x5x256, .f32⟩
  | 13 => ⟨S_, .f32⟩
  | 14 => ⟨S64x5x256, .f32⟩
  | 15 => ⟨S64x5x256, .f32⟩
  | 16 => ⟨S256x128, .f32⟩
  | 17 => ⟨S64x5x128, .f32⟩
  | 18 => ⟨S1x1x128, .f32⟩
  | 19 => ⟨S64x5x128, .f32⟩
  | 20 => ⟨S64x5x128, .f32⟩
  | _ => ⟨S64x3x512x512, .f32⟩

abbrev hbmTy (i : Nat) : BufTy := match i / 128 with
  | 0 => hbmTy0_0 i
  | 1 => hbmTy0_1 i
  | _ => ⟨S64x3x512x512, .f32⟩

abbrev bufTy : (tb : Table) → Fin (tcTables nBuf tb) → BufTy
  | .hbm, ⟨i, _⟩ => hbmTy i
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_cst_3 : Ref sig .tc := ⟨.hbm, 46, rfl⟩
abbrev main_call0_v13 : Ref sig .tc := ⟨.hbm, 47, rfl⟩
abbrev main_call0_cst_4 : Ref sig .tc := ⟨.hbm, 48, rfl⟩
abbrev main_call0_call0_v0 : Ref sig .tc := ⟨.hbm, 49, rfl⟩
abbrev main_call0_call0_v1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_1 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_call1_cst : Ref sig .tc := ⟨.hbm, 66, rfl⟩
abbrev main_call1_v0 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_2 : Ref sig .tc := ⟨.hbm, 77, rfl⟩
abbrev main_v34 : Ref sig .tc := ⟨.hbm, 78, rfl⟩
abbrev main_v35 : Ref sig .tc := ⟨.hbm, 79, rfl⟩
abbrev main_cst_3 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_call2_cst : Ref sig .tc := ⟨.hbm, 89, rfl⟩
abbrev main_call2_v0 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_4 : Ref sig .tc := ⟨.hbm, 97, rfl⟩
abbrev main_v50 : Ref sig .tc := ⟨.hbm, 98, rfl⟩
abbrev main_v51 : Ref sig .tc := ⟨.hbm, 99, rfl⟩
abbrev main_cst_5 : Ref sig .tc := ⟨.hbm, 100, rfl⟩
abbrev main_v52 : Ref sig .tc := ⟨.hbm, 101, rfl⟩
abbrev main_v53 : Ref sig .tc := ⟨.hbm, 102, rfl⟩
abbrev main_c_6 : Ref sig .tc := ⟨.hbm, 103, rfl⟩
abbrev main_call3_cst : Ref sig .tc := ⟨.hbm, 104, rfl⟩
abbrev main_call3_v0 : Ref sig .tc := ⟨.hbm, 105, rfl⟩
abbrev main_call3_v1 : Ref sig .tc := ⟨.hbm, 106, rfl⟩
abbrev main_call3_cst_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_v7 : Ref sig .tc := ⟨.hbm, 113, rfl⟩
abbrev main_call3_cst_1 : Ref sig .tc := ⟨.hbm, 114, rfl⟩
abbrev main_call3_v8 : Ref sig .tc := ⟨.hbm, 115, rfl⟩
abbrev main_call3_cst_2 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_v12 : Ref sig .tc := ⟨.hbm, 120, rfl⟩
abbrev main_call3_cst_3 : Ref sig .tc := ⟨.hbm, 121, rfl⟩
abbrev main_call3_v13 : Ref sig .tc := ⟨.hbm, 122, rfl⟩
abbrev main_call3_cst_4 : Ref sig .tc := ⟨.hbm, 123, rfl⟩
abbrev main_call3_call0_v0 : Ref sig .tc := ⟨.hbm, 124, rfl⟩
abbrev main_call3_call0_v1 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_cst_7 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_call4_cst : Ref sig .tc := ⟨.hbm, 141, rfl⟩
abbrev main_call4_v0 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩

abbrev nD : Nat := 1
abbrev τ : Topo := Topo.v7x

variable {F : FTy → Type} [FloatOps F]
-- ==== Proof.RefTerm.lean ====
module

public import proofs.«01_k».proof.Proof.Gen.ReferenceIdeal.Run
public import Idealize.ShloMosaic.Lib.Pointwise

@[expose] public section

set_option maxRecDepth 16384

noncomputable section

namespace Cert.Proof.Ref

open Idealize.ShloMosaic Cert.ReferenceIdeal Cert.ReferenceIdeal.Gen

/-- A rank-zero number spread over one entry per channel. -/
def overChannels (v : FVec Ideal S_ .f32) : FVec Ideal S1x16x1x1 .f32 := broadcastInDim S1x16x1x1 ![] bcast_S_S1x16x1x1 v

/-- One number per channel, as an array of rank four. -/
def channelLine (v : FVec Ideal S16 .f32) : FVec Ideal S1x16x1x1 .f32 := broadcastInDim S1x16x1x1 ![1] bcast_S16_S1x16x1x1_1 v

/-- One number per channel spread over the feature map. -/
def overMap (v : FVec Ideal S1x16x1x1 .f32) : FVec Ideal S64x16x51x51 .f32 :=
  broadcastInDim S64x16x51x51 ![0, 1, 2, 3] bcast_S1x16x1x1_S64x16x51x51_0_1_2_3 v

/-- The reference's first convolution with its bias. -/
def conv (x : FVec Ideal S64x3x512x512 .f32) (w : FVec Ideal S16x3x10x10 .f32) (b : FVec Ideal S16 .f32) : FVec Ideal S64x16x51x51 .f32 :=
  addf (transpose S64x16x51x51 [1, 0, 2, 3]
      (Host.dotGeneral dot_S16x3x10x10_S64x3x51x10x51x10_S16x64x51x51_123_135_0_024_n_n none w
        (shapeCast _ (extractStridedSlice S64x3x510x510 ![0, 0, 0, 0] x slices_S64x3x512x512_S64x3x510x510_0_0_0_0)
          shapeCasts_S64x3x510x510_S64x3x51x10x51x10)) transposes_S16x64x51x51_S64x16x51x51_1_0_2_3)
    (overMap (channelLine b))

/-- The sum of a feature map over all but its channel axis. -/
def channelSum (h : FVec Ideal S64x16x51x51 .f32) : FVec Ideal S16 .f32 :=
  Host.reduceAdd h (constant S_ .f32 0x00000000#32) reducesTo_S64x16x51x51_S16_d0_2_3 h_S_

/-- The mean of each channel. -/
def channelMean (h : FVec Ideal S64x16x51x51 .f32) : FVec Ideal S1x16x1x1 .f32 :=
  Host.divf (channelLine (channelSum h)) (overChannels (constant S_ .f32 0x48229000#32))

/-- The number of elements a channel's variance divides by. -/
def channelCount : FVec Ideal S_ .f32 := subf (constant S_ .f32 0x48229000#32) (sitofp .f32 (constantI S_ 32 0#32))

/-- The variance of each channel. -/
def channelVar (h : FVec Ideal S64x16x51x51 .f32) : FVec Ideal S1x16x1x1 .f32 :=
  select (broadcastInDim S1x16x1x1 ![] bcast_S_S1x16x1x1 (cmpf .ogt channelCount (constant S_ .f32 0x00000000#32)))
    (Host.divf (channelLine (channelSum (mulf (subf h (overMap (channelMean h))) (subf h (overMap (channelMean h))))))
      (overChannels channelCount))
    (overChannels (id (constant S_ .f32 0x7FC00000#32)))

/-- The batch norm and the relu behind it. -/
def norm (h : FVec Ideal S64x16x51x51 .f32) (g b : FVec Ideal S16 .f32) : FVec Ideal S64x16x51x51 .f32 :=
  maximumf
    (addf (mulf (Host.divf (subf h (overMap (channelMean h)))
        (overMap (Host.sqrt (addf (channelVar h) (overChannels (constant S_ .f32 0x3727C5AC#32))))))
      (overMap (channelLine g))) (overMap (channelLine b)))
    (broadcastInDim S64x16x51x51 ![] bcast_S_S64x16x51x51 (constant S_ .f32 0x00000000#32))

/-- The number one at every place of the object maps. -/
def ones : FVec Ideal S64x5x51x51 .f32 := broadcastInDim S64x5x51x51 ![] bcast_S_S64x5x51x51 (constant S_ .f32 0x3F800000#32)

/-- The second convolution, its sigmoid, and the map laid out in one row per object. -/
def objects (h : FVec Ideal S64x16x51x51 .f32) (w : FVec Ideal S5x16x1x1 .f32) (b : FVec Ideal S5 .f32) : FVec Ideal S64x5x2601 .f32 :=
  shapeCast _ (Host.divf ones (addf ones (Host.exp (Host.negf
    (addf (transpose S64x5x51x51 [1, 0, 2, 3]
        (Host.dotGeneral dot_S5x16_S64x16x51x51_S5x64x51x51_1_1_0_023_n_n none (shapeCast _ w shapeCasts_S5x16x1x1_S5x16) h)
        transposes_S5x64x51x51_S64x5x51x51_1_0_2_3)
      (broadcastInDim S64x5x51x51 ![0, 1, 2, 3] bcast_S1x5x1x1_S64x5x51x51_0_1_2_3
        (broadcastInDim S1x5x1x1 ![1] bcast_S5_S1x5x1x1_1 b))))))) shapeCasts_S64x5x51x51_S64x5x2601

/-- A vector over the features spread over samples and objects. -/
def overRows (v : FVec Ideal S256 .f32) : FVec Ideal S64x5x256 .f32 :=
  broadcastInDim S64x5x256 ![0, 1, 2] bcast_S1x1x256_S64x5x256_0_1_2 (broadcastInDim S1x1x256 ![2] bcast_S256_S1x1x256_2 v)

/-- Negative features replaced by zero. -/
def clamp (v : FVec Ideal S64x5x256 .f32) : FVec Ideal S64x5x256 .f32 :=
  maximumf v (broadcastInDim S64x5x256 ![] bcast_S_S64x5x256 (constant S_ .f32 0x00000000#32))

/-- The first dense layer and its relu. -/
def dense1 (x : FVec Ideal S64x5x2601 .f32) (w : FVec Ideal S256x2601 .f32) (b : FVec Ideal S256 .f32) : FVec Ideal S64x5x256 .f32 :=
  clamp (addf (Host.dotGeneral dot_S64x5x2601_S2601x256_S64x5x256_2_0_01_1_n_n none x
    (transpose S2601x256 [1, 0] w transposes_S256x2601_S2601x256_1_0)) (overRows b))

/-- The second dense layer. -/
def dense2 (x : FVec Ideal S64x5x256 .f32) (w : FVec Ideal S256x256 .f32) (b : FVec Ideal S256 .f32) : FVec Ideal S64x5x256 .f32 :=
  addf (Host.dotGeneral dot_S64x5x256_S256x256_S64x5x256_2_0_01_1_n_n none x
    (transpose S256x256 [1, 0] w transposes_S256x256_S256x256_1_0)) (overRows b)

/-- A rank-zero number spread over one entry per row. -/
def overPairs (v : FVec Ideal S_ .f32) : FVec Ideal S64x5x1 .f32 := broadcastInDim S64x5x1 ![] bcast_S_S64x5x1 v

/-- The sum of each row of features. -/
def rowSum (z : FVec Ideal S64x5x256 .f32) : FVec Ideal S64x5x1 .f32 :=
  broadcastInDim S64x5x1 ![0, 1] bcast_S64x5_S64x5x1_0_1
    (Host.reduceAdd z (constant S_ .f32 0x00000000#32) reducesTo_S64x5x256_S64x5_d2 h_S_)

/-- One number per row spread over the row. -/
def overFeatures (v : FVec Ideal S64x5x1 .f32) : FVec Ideal S64x5x256 .f32 :=
  broadcastInDim S64x5x256 ![0, 1, 2] bcast_S64x5x1_S64x5x256_0_1_2 v

/-- The mean of each row. -/
def rowMean (z : FVec Ideal S64x5x256 .f32) : FVec Ideal S64x5x1 .f32 :=
  Host.divf (rowSum z) (overPairs (constant S_ .f32 0x43800000#32))

/-- The number of elements a row's variance divides by. -/
def rowCount : FVec Ideal S_ .f32 := subf (constant S_ .f32 0x43800000#32) (sitofp .f32 (constantI S_ 32 0#32))

/-- The variance of each row. -/
def rowVar (z : FVec Ideal S64x5x256 .f32) : FVec Ideal S64x5x1 .f32 :=
  select (broadcastInDim S64x5x1 ![] bcast_S_S64x5x1 (cmpf .ogt rowCount (constant S_ .f32 0x00000000#32)))
    (Host.divf (rowSum (mulf (subf z (overFeatures (rowMean z))) (subf z (overFeatures (rowMean z))))) (overPairs rowCount))
    (overPairs (id (constant S_ .f32 0x7FC00000#32)))

/-- The layer norm and the relu behind it. -/
def layerNorm (z : FVec Ideal S64x5x256 .f32) (g b : FVec Ideal S256 .f32) : FVec Ideal S64x5x256 .f32 :=
  clamp (addf (mulf (Host.divf (subf z (overFeatures (rowMean z)))
      (overFeatures (Host.sqrt (addf (rowVar z) (overPairs (constant S_ .f32 0x3727C5AC#32)))))) (overRows g)) (overRows b))

/-- The last dense layer. -/
def dense3 (x : FVec Ideal S64x5x256 .f32) (w : FVec Ideal S128x256 .f32) (b : FVec Ideal S128 .f32) : FVec Ideal S64x5x128 .f32 :=
  addf (Host.dotGeneral dot_S64x5x256_S256x128_S64x5x128_2_0_01_1_n_n none x
      (transpose S256x128 [1, 0] w transposes_S128x256_S256x128_1_0))
    (broadcastInDim S64x5x128 ![0, 1, 2] bcast_S1x1x128_S64x5x128_0_1_2 (broadcastInDim S1x1x128 ![2] bcast_S128_S1x1x128_2 b))

set_option maxHeartbeats 2000000 in
/-- The reference's result is its stages one behind the other. -/
theorem result_eq (m : (ℓ : Loc nD τ sig) → Buf (Elt Ideal) ℓ) (c : Dev nD) :
    Cert.ReferenceIdeal.Value.res_out0 m c
      = dense3 (layerNorm (dense2 (dense1 (objects (norm (conv (m ((c.tc : Thread nD τ).loc main_arg0))
            (m ((c.tc : Thread nD τ).loc main_arg1)) (m ((c.tc : Thread nD τ).loc main_arg2)))
            (m ((c.tc : Thread nD τ).loc main_arg3)) (m ((c.tc : Thread nD τ).loc main_arg4)))
            (m ((c.tc : Thread nD τ).loc main_arg5)) (m ((c.tc : Thread nD τ).loc main_arg6)))
            (m ((c.tc : Thread nD τ).loc main_arg7)) (m ((c.tc : Thread nD τ).loc main_arg8)))
            (m ((c.tc : Thread nD τ).loc main_arg9)) (m ((c.tc : Thread nD τ).loc main_arg10)))
            (m ((c.tc : Thread nD τ).loc main_arg11)) (m ((c.tc : Thread nD τ).loc main_arg12)))
            (m ((c.tc : Thread nD τ).loc main_arg13)) (m ((c.tc : Thread nD τ).loc main_arg14)) := by
  unfold Cert.ReferenceIdeal.Value.res_out0 Cert.ReferenceIdeal.Value.res_main_v73
  rfl

end Cert.Proof.Ref

end
-- ==== Proof.Numbers.lean ====
module

public import Idealize.ShloMosaic.Lib.Pointwise
public import Idealize.ShloMosaic.Lib.IdealHost

@[expose] public section

noncomputable section

namespace Cert.Proof

open Idealize.ShloMosaic

/-- The number of places in a channel's feature maps, over all samples. -/
theorem places_val : Ideal.ofBits FTy.f32 1210224640#32 = ((166464 : ℝ) : EReal) := by
  simp [Ideal.ofBits, Ideal.ieee, -EReal.coe_mul]; norm_num

/-- The number of features in a row. -/
theorem width_val : Ideal.ofBits FTy.f32 1132462080#32 = ((256 : ℝ) : EReal) := by
  simp [Ideal.ofBits, Ideal.ieee, -EReal.coe_mul]; norm_num

/-- The real number that both norms add to a variance. -/
def guard : ℝ := (2 : ℝ) ^ (-40 : ℤ) * 10995116

theorem guard_pos : 0 < guard := by unfold guard; positivity

/-- The word of both norms' constant is that positive number. -/
theorem guard_val : Ideal.ofBits FTy.f32 925353388#32 = ((guard : ℝ) : EReal) := by
  unfold guard
  simp [Ideal.ofBits, Ideal.ieee, -EReal.coe_mul]; norm_num

/-- The integer zero as a float is zero. -/
theorem float_zero : FloatOps.sitofp (F := Ideal) FTy.f32 0#32 = (0 : EReal) := by
  change (((BitVec.toInt 0#32 : ℤ) : ℝ) : EReal) = 0
  simp

end Cert.Proof

end
-- ==== Proof.Norms.lean ====
module

public import proofs.«01_k».proof.Proof.Numbers

@[expose] public section

noncomputable section

namespace Cert.Proof

open Idealize.ShloMosaic

/-! Extended real numbers that are real -/

/-- The extended real number is a real one. -/
def IsReal (x : EReal) : Prop := ∃ r : ℝ, x = r

theorem IsReal.add {x y : EReal} : IsReal x → IsReal y → IsReal (x + y) := by
  rintro ⟨r, rfl⟩ ⟨s, rfl⟩
  exact ⟨r + s, (EReal.coe_add r s).symm⟩

theorem IsReal.mul {x y : EReal} : IsReal x → IsReal y → IsReal (x * y) := by
  rintro ⟨r, rfl⟩ ⟨s, rfl⟩
  exact ⟨r * s, (EReal.coe_mul r s).symm⟩

theorem IsReal.relu {x : EReal} : IsReal x → IsReal (max x 0) := by
  rintro ⟨r, rfl⟩
  exact ⟨max r 0, by rw [← EReal.coe_zero, ← EReal.coe_strictMono.monotone.map_max]⟩

/-- A finite sum of real numbers, taken in the extended real numbers. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩

/-- The sigmoid is real everywhere. -/
theorem real_logistic (x : EReal) : IsReal (Ideal.logistic x) := by
  induction x with
  | bot => exact ⟨0, by simp [Ideal.logistic_bot]⟩
  | top => exact ⟨1, by simp [Ideal.logistic_top]⟩
  | coe r => exact ⟨_, Ideal.logistic_coe r⟩

/-! The variance in its two forms -/

/-- The mean of the squares less the square of the mean is the mean of the squared distances from the mean. -/
theorem variance {ι : Type} [Fintype ι] (f : ι → ℝ) (N : ℝ) (hN : N = Fintype.card ι) (h0 : 0 < N) :
    (∑ i, f i * f i) / N - (∑ i, f i) / N * ((∑ i, f i) / N)
      = (∑ i, (f i - (∑ k, f k) / N) * (f i - (∑ k, f k) / N)) / N := by
  have expand : ∀ c : ℝ, ∑ i, (f i - c) * (f i - c) = (∑ i, f i * f i) - 2 * c * (∑ i, f i) + N * (c * c) := fun c => by
    have : ∀ i, (f i - c) * (f i - c) = f i * f i - 2 * c * f i + c * c := fun i => by ring
    simp only [this, Finset.sum_add_distrib, Finset.sum_sub_distrib, ← Finset.mul_sum, Finset.sum_const, Finset.card_univ,
      nsmul_eq_mul, ← hN]
    ring
  rw [expand]
  field_simp
  ring

/-- A mean of squares isn't negative. -/
theorem mean_sq_nonneg {ι : Type} [Fintype ι] (f : ι → ℝ) (N c : ℝ) (h0 : 0 < N) : 0 ≤ (∑ i, (f i - c) * (f i - c)) / N :=
  div_nonneg (Finset.sum_nonneg fun _ _ => mul_self_nonneg _) h0.le

/-- The quotient of real numbers. -/
theorem div_real (x : ℝ) {y : ℝ} (h : y ≠ 0) : Ideal.div (x : EReal) (y : EReal) = ((x / y : ℝ) : EReal) := by
  rw [Ideal.div_coe h, ← EReal.coe_mul, mul_one_div]

/-- The mean of real numbers. -/
theorem mean_coe {ι : Type} [Fintype ι] (f : ι → ℝ) (N : ℝ) (h0 : 0 < N) :
    Ideal.div (∑ i, (f i : EReal)) (N : EReal) = (((∑ i, f i) / N : ℝ) : EReal) := by
  rw [coe_sum, div_real _ h0.ne']

/-! Sums that an infinity reaches -/

/-- An infinite summand makes the sum infinite. -/
theorem sum_infinite {ι : Type} [Fintype ι] (h : ι → EReal) (i : ι) (hi : h i = ⊤ ∨ h i = ⊥) : ∑ k, h k = ⊤ ∨ ∑ k, h k = ⊥ := by
  classical
  rw [← Finset.add_sum_erase _ _ (Finset.mem_univ i)]
  rcases hi with hi | hi
  · rw [hi]
    generalize ∑ k ∈ Finset.univ.erase i, h k = s
    induction s with
    | bot => exact Or.inr (EReal.add_bot _)
    | top => exact Or.inl rfl
    | coe r => exact Or.inl (EReal.top_add_coe r)
  · rw [hi]
    exact Or.inr (EReal.bot_add _)

/-- A sum of squares one of which is infinite. -/
theorem sum_top {ι : Type} [Fintype ι] (h : ι → EReal) (nonneg : ∀ k, 0 ≤ h k) (i : ι) (hi : h i = ⊤) : ∑ k, h k = ⊤ :=
  top_le_iff.mp (hi ▸ Finset.single_le_sum (fun k _ => nonneg k) (Finset.mem_univ i))

/-- The square of an infinity. -/
theorem sq_infinite {x : EReal} (h : x = ⊤ ∨ x = ⊥) : x * x = ⊤ := by
  rcases h with rfl | rfl
  · exact EReal.top_mul_top
  · exact EReal.bot_mul_bot

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- An infinity divided by a positive real number. -/
theorem top_div {N : ℝ} (h0 : 0 < N) : Ideal.div ⊤ (N : EReal) = ⊤ := by
  have : (N : EReal) ≠ 0 := by exact_mod_cast h0.ne'
  rw [Ideal.div, if_neg this, ← EReal.coe_inv, EReal.top_mul_coe_of_pos (inv_pos.mpr h0)]

theorem bot_div {N : ℝ} (h0 : 0 < N) : Ideal.div ⊥ (N : EReal) = ⊥ := by
  have : (N : EReal) ≠ 0 := by exact_mod_cast h0.ne'
  rw [Ideal.div, if_neg this, ← EReal.coe_inv, EReal.bot_mul_coe_of_pos (inv_pos.mpr h0)]

/-- Anything divided by an infinity is zero. -/
theorem div_top (x : EReal) : Ideal.div x ⊤ = 0 := by
  rw [Ideal.div, if_neg EReal.top_ne_zero, EReal.inv_top, mul_zero]

theorem div_bot (x : EReal) : Ideal.div x ⊥ = 0 := by
  rw [Ideal.div, if_neg EReal.bot_ne_zero, EReal.inv_bot, mul_zero]

/-- The distance of any number from an infinite mean is infinite. -/
theorem sub_infinite (x : EReal) {μ : EReal} (h : μ = ⊤ ∨ μ = ⊥) : x - μ = ⊤ ∨ x - μ = ⊥ := by
  rcases h with rfl | rfl
  · exact Or.inr (by rw [sub_eq_add_neg, EReal.neg_top, EReal.add_bot])
  · rw [sub_eq_add_neg, EReal.neg_bot]
    induction x with
    | bot => exact Or.inr (EReal.bot_add _)
    | top => exact Or.inl rfl
    | coe r => exact Or.inl (EReal.coe_add_top r)

/-! The two norms -/

/-- Where an infinity reaches the channel, the scale is zero and the shift is the bias. -/
theorem batch_infinite {ι : Type} [Fintype ι] (h : ι → EReal) (N e : ℝ) (h0 : 0 < N) (g b : EReal) (x i : ι) (hi : h i = ⊤ ∨ h i = ⊥) :
    h x * Ideal.div g (Ideal.sqrt (Ideal.div (∑ k, h k * h k) (N : EReal)
        - Ideal.div (∑ k, h k) (N : EReal) * Ideal.div (∑ k, h k) (N : EReal) + (e : EReal)))
      + (b - Ideal.div (∑ k, h k) (N : EReal) * Ideal.div g (Ideal.sqrt (Ideal.div (∑ k, h k * h k) (N : EReal)
        - Ideal.div (∑ k, h k) (N : EReal) * Ideal.div (∑ k, h k) (N : EReal) + (e : EReal)))) = b := by
  have hμ : Ideal.div (∑ k, h k) (N : EReal) = ⊤ ∨ Ideal.div (∑ k, h k) (N : EReal) = ⊥ := by
    rcases sum_infinite h i hi with s | s
    · exact Or.inl (by rw [s, top_div h0])
    · exact Or.inr (by rw [s, bot_div h0])
  rw [sq_infinite hμ, sum_top (fun k => h k * h k) (fun k => square_nonneg _) i (sq_infinite hi), top_div h0, sub_eq_add_neg,
    EReal.neg_top, EReal.add_bot, EReal.bot_add, Ideal.sqrt_bot, div_bot, mul_zero, mul_zero, sub_zero, zero_add]

/-- Where an infinity reaches the channel, the variance is infinite and only the bias remains. -/
theorem batch_infinite_reference {ι : Type} [Fintype ι] (h : ι → EReal) (N e : ℝ) (h0 : 0 < N) (g b : EReal) (x i : ι) (hi : h i = ⊤ ∨ h i = ⊥) :
    Ideal.div (h x - Ideal.div (∑ k, h k) (N : EReal))
        (Ideal.sqrt (Ideal.div (∑ k, (h k - Ideal.div (∑ k, h k) (N : EReal)) * (h k - Ideal.div (∑ k, h k) (N : EReal))) (N : EReal)
          + (e : EReal))) * g + b = b := by
  have hμ : Ideal.div (∑ k, h k) (N : EReal) = ⊤ ∨ Ideal.div (∑ k, h k) (N : EReal) = ⊥ := by
    rcases sum_infinite h i hi with s | s
    · exact Or.inl (by rw [s, top_div h0])
    · exact Or.inr (by rw [s, bot_div h0])
  rw [sum_top (fun k => (h k - Ideal.div (∑ k, h k) (N : EReal)) * (h k - Ideal.div (∑ k, h k) (N : EReal)))
    (fun k => square_nonneg _) i (sq_infinite (sub_infinite (h i) hμ)), top_div h0,
    EReal.top_add_coe, Ideal.sqrt_top, div_top, zero_mul, zero_add]

/-- The kernel's batch norm, by a scale and a shift, is the reference's, by the distance from the mean. -/
theorem batch_norm {ι : Type} [Fintype ι] (h : ι → EReal) (N e : ℝ) (hN : N = Fintype.card ι) (h0 : 0 < N) (he : 0 < e)
    (g b : EReal) (hg : IsReal g) (x : ι) :
    h x * Ideal.div g (Ideal.sqrt (Ideal.div (∑ k, h k * h k) (N : EReal)
        - Ideal.div (∑ k, h k) (N : EReal) * Ideal.div (∑ k, h k) (N : EReal) + (e : EReal)))
      + (b - Ideal.div (∑ k, h k) (N : EReal) * Ideal.div g (Ideal.sqrt (Ideal.div (∑ k, h k * h k) (N : EReal)
        - Ideal.div (∑ k, h k) (N : EReal) * Ideal.div (∑ k, h k) (N : EReal) + (e : EReal))))
      = Ideal.div (h x - Ideal.div (∑ k, h k) (N : EReal))
        (Ideal.sqrt (Ideal.div (∑ k, (h k - Ideal.div (∑ k, h k) (N : EReal)) * (h k - Ideal.div (∑ k, h k) (N : EReal))) (N : EReal)
          + (e : EReal))) * g + b := by
  by_cases fin : ∀ i, IsReal (h i)
  · obtain ⟨γ, rfl⟩ := hg
    choose f hf using fin
    obtain rfl : h = fun i => (f i : EReal) := funext hf
    have root : 0 < Real.sqrt ((∑ k, (f k - (∑ k, f k) / N) * (f k - (∑ k, f k) / N)) / N + e) :=
      Real.sqrt_pos.mpr (add_pos_of_nonneg_of_pos (mean_sq_nonneg f N _ h0) he)
    have nn := (add_pos_of_nonneg_of_pos (mean_sq_nonneg f N ((∑ k, f k) / N) h0) he)
    simp only [mean_coe _ N h0, ← EReal.coe_mul, ← EReal.coe_sub, ← EReal.coe_add, variance f N hN h0, Ideal.sqrt_coe,
      if_neg (not_lt.mpr nn.le), div_real _ root.ne']
    rw [sub_eq_add_neg b, ← EReal.coe_neg, add_comm b, ← add_assoc, ← EReal.coe_add]
    refine congrArg (fun t : ℝ => (t : EReal) + b) ?_
    ring
  · obtain ⟨i, hi⟩ := not_forall.mp fin
    have hi' : h i = ⊤ ∨ h i = ⊥ := by
      revert hi
      generalize h i = y
      induction y with
      | bot => exact fun _ => Or.inr rfl
      | top => exact fun _ => Or.inl rfl
      | coe r => exact fun hi => absurd ⟨r, rfl⟩ hi
    rw [batch_infinite h N e h0 g b x i hi', batch_infinite_reference h N e h0 g b x i hi']

/-- The kernel's layer norm, by the reciprocal root, is the reference's, by division, on real features. -/
theorem layer_norm {ι : Type} [Fintype ι] (z : ι → EReal) (fin : ∀ i, IsReal (z i)) (N e : ℝ) (hN : N = Fintype.card ι) (h0 : 0 < N)
    (he : 0 < e) (x : ι) :
    (z x - Ideal.div (∑ k, z k) (N : EReal)) * Ideal.rsqrt (Ideal.div (∑ k, z k * z k) (N : EReal)
        - Ideal.div (∑ k, z k) (N : EReal) * Ideal.div (∑ k, z k) (N : EReal) + (e : EReal))
      = Ideal.div (z x - Ideal.div (∑ k, z k) (N : EReal))
        (Ideal.sqrt (Ideal.div (∑ k, (z k - Ideal.div (∑ k, z k) (N : EReal)) * (z k - Ideal.div (∑ k, z k) (N : EReal))) (N : EReal)
          + (e : EReal))) := by
  choose f hf using fin
  obtain rfl : z = fun i => (f i : EReal) := funext hf
  have nn := (add_pos_of_nonneg_of_pos (mean_sq_nonneg f N ((∑ k, f k) / N) h0) he)
  have root := Real.sqrt_pos.mpr nn
  simp only [mean_coe _ N h0, ← EReal.coe_mul, ← EReal.coe_sub, ← EReal.coe_add, variance f N hN h0, Ideal.sqrt_coe,
    Ideal.rsqrt_coe, if_neg (not_lt.mpr nn.le), if_neg nn.ne', div_real _ root.ne']
  refine congrArg (fun t : ℝ => (t : EReal)) ?_
  exact (div_eq_mul_inv _ _).symm

end Cert.Proof

end
-- ==== Proof.Scales.lean ====
module

public import proofs.«01_k».proof.Defs
public import proofs.«01_k».proof.Proof.Norms
public import Idealize.ShloMosaic.Lib.ReduceAll
public import Idealize.ShloMosaic.Lib.Claim

@[expose] public section

set_option maxRecDepth 16384

noncomputable section

namespace Cert.Proof.Scales

open Idealize.ShloMosaic Cert.Pre_finite_scales

/-- The shape relations the precondition's operations take. -/
theorem facts : Cert.Pre_finite_scales.Facts where
  bcast_S_S16 := by decide
  reducesTo_S16_S_d0 := by decide
  h_S_ := by decide
  bcast_S_S256x2601 := by decide
  reducesTo_S256x2601_S_d0_1 := by decide
  bcast_S_S256 := by decide
  reducesTo_S256_S_d0 := by decide
  bcast_S_S256x256 := by decide
  reducesTo_S256x256_S_d0_1 := by decide

/-- The bit pattern of infinity. -/
theorem infinity_val : Ideal.ofBits .f32 0x7F800000#32 = (⊤ : EReal) := by
  simp [Ideal.ofBits, Ideal.ieee]

/-- An extended real number whose absolute value is under infinity is real. -/
theorem real_of_abs {x : EReal} (h : max x (-x) < ⊤) : IsReal x := by
  induction x with
  | bot => exact absurd h (by simp)
  | top => exact absurd h (by simp)
  | coe r => exact ⟨r, rfl⟩

/-- An array whose finiteness test came out true at every element has real elements. -/
theorem real_of_all {s : Shape} {axes : List (Fin s.rank)} (x : FVec Ideal s .f32) (hb : S_.BroadcastsInDim s (![] : Fin 0 → Fin s.rank))
    (hr : s.ReducesTo axes S_) (h0 : 0 < S_.numel) (j : S_.Idx)
    (e : Host.reduce IntOp.andi (cmpf .olt (Host.absf x) (broadcastInDim s ![] hb (constant S_ .f32 0x7F800000#32)))
      (constantI S_ 1 1#1) hr h0 j = 1#1) (i : s.Idx) : IsReal (x i) := by
  have h := Host.reduce_andi_all _ _ _ _ j e i
  refine real_of_abs ?_
  rw [← infinity_val]
  have h' : BitVec.ofBool (decide (max (x i) (-x i) < Ideal.ofBits .f32 0x7F800000#32)) = 1#1 := h
  by_contra hn
  rw [decide_eq_false hn] at h'
  exact absurd h' (by decide)

/-- What the precondition says of the arguments it tests: batch norm's weights and the first two dense layers' weights and
    biases are real. -/
theorem real_of_fn [hF : Cert.Pre_finite_scales.Facts] (a0 : FVec Ideal S64x3x512x512 .f32) (a1 : FVec Ideal S16x3x10x10 .f32)
    (a2 a3 a4 : FVec Ideal S16 .f32) (a5 : FVec Ideal S5x16x1x1 .f32) (a6 : FVec Ideal S5 .f32) (a7 : FVec Ideal S256x2601 .f32)
    (a8 : FVec Ideal S256 .f32) (a9 : FVec Ideal S256x256 .f32) (a10 a11 a12 : FVec Ideal S256 .f32)
    (a13 : FVec Ideal S128x256 .f32) (a14 : FVec Ideal S128 .f32)
    (e : fn (F := Ideal) a0 a1 a2 a3 a4 a5 a6 a7 a8 a9 a10 a11 a12 a13 a14 = fun _ => 1#1) :
    (∀ i, IsReal (a3 i)) ∧ (∀ i, IsReal (a7 i)) ∧ (∀ i, IsReal (a8 i)) ∧ (∀ i, IsReal (a9 i)) ∧ (∀ i, IsReal (a10 i)) := by
  have j : S_.Idx := fun a => a.elim0
  obtain ⟨e, e10⟩ := IntOp.andi_eq_one.1 (congrFun e j)
  obtain ⟨e, e9⟩ := IntOp.andi_eq_one.1 e
  obtain ⟨e, e8⟩ := IntOp.andi_eq_one.1 e
  obtain ⟨e3, e7⟩ := IntOp.andi_eq_one.1 e
  exact ⟨real_of_all a3 _ _ _ j e3, real_of_all a7 _ _ _ j e7, real_of_all a8 _ _ _ j e8, real_of_all a9 _ _ _ j e9,
    real_of_all a10 _ _ _ j e10⟩

end Cert.Proof.Scales

end
-- ==== Proof.RefConv.lean ====
module

public import proofs.«01_k».proof.Proof.RefTerm
public import Idealize.ShloMosaic.Lib.Pointwise

@[expose] public section

set_option maxRecDepth 16384

noncomputable section

namespace Cert.Proof.Ref

open Idealize.ShloMosaic Cert.ReferenceIdeal Cert.ReferenceIdeal.Gen

/-- The first convolution's dimension numbers. -/
abbrev convDims : DotDims S16x3x10x10 S64x3x51x10x51x10 S16x64x51x51 :=
  dot_S16x3x10x10_S64x3x51x10x51x10_S16x64x51x51_123_135_0_024_n_n

/-- A position of the first convolution's contraction is an input channel, a row and a column of the window. -/
def tap : convDims.contr.Idx ≃ Fin 3 × Fin 10 × Fin 10 where
  toFun k := (k ⟨0, by decide⟩, k ⟨1, by decide⟩, k ⟨2, by decide⟩)
  invFun p a := match a with
    | ⟨0, _⟩ => p.1
    | ⟨1, _⟩ => p.2.1
    | ⟨2, _⟩ => p.2.2
  left_inv k := by
    funext a
    match a with
    | ⟨0, _⟩ => rfl
    | ⟨1, _⟩ => rfl
    | ⟨2, _⟩ => rfl
  right_inv _ := rfl

/-- The weight that a contraction position reads. -/
theorem lhs_tap (o : Fin 16) (n : Fin 64) (i j : Fin 51) (p : Fin 3 × Fin 10 × Fin 10) :
    convDims.lhsIdx (ix4 o n i j) (tap.symm p) = ix4 o p.1 p.2.1 p.2.2 := by
  funext a
  match a with
  | ⟨0, _⟩ => rfl
  | ⟨1, _⟩ => rfl
  | ⟨2, _⟩ => rfl
  | ⟨3, _⟩ => rfl

/-- The pixel that a contraction position reads. -/
theorem rhs_tap (o : Fin 16) (n : Fin 64) (i j : Fin 51) (p : Fin 3 × Fin 10 × Fin 10) :
    convDims.rhsIdx (ix4 o n i j) (tap.symm p) = ix6 n p.1 i p.2.1 j p.2.2 := by
  funext a
  match a with
  | ⟨0, _⟩ => rfl
  | ⟨1, _⟩ => rfl
  | ⟨2, _⟩ => rfl
  | ⟨3, _⟩ => rfl
  | ⟨4, _⟩ => rfl
  | ⟨5, _⟩ => rfl

/-- The contraction over a window is the sum over its channels, rows and columns. -/
theorem contract_at (l : FVec Ideal S16x3x10x10 .f32) (r : FVec Ideal S64x3x51x10x51x10 .f32) (o : Fin 16) (n : Fin 64) (i j : Fin 51) :
    Ideal.matmul convDims l r (fun _ => 0) (ix4 o n i j)
      = ∑ c : Fin 3, ∑ u : Fin 10, ∑ v : Fin 10, l (ix4 o c u v) * r (ix6 n c i u j v) := by
  unfold Ideal.matmul
  rw [zero_add, ← Equiv.sum_comp tap.symm]
  simp only [lhs_tap, rhs_tap, Fintype.sum_prod_type]

/-- The first convolution at a place of the feature map. -/
theorem conv_at (x : FVec Ideal S64x3x512x512 .f32) (w : FVec Ideal S16x3x10x10 .f32) (b : FVec Ideal S16 .f32) (n : Fin 64)
    (o : Fin 16) (i j : Fin 51) :
    conv x w b (ix4 n o i j)
      = ∑ c : Fin 3, ∑ u : Fin 10, ∑ v : Fin 10,
          w (ix4 o c u v) * x (ix4 n c ⟨i.val * 10 + u.val, by omega⟩ ⟨j.val * 10 + v.val, by omega⟩) + b (ix1 o) := by
  pointwise [conv, overMap, channelLine]
  refine congrArg (· + b (ix1 o)) ((contract_at _ _ o n i j).trans ?_)
  refine Finset.sum_congr rfl fun c _ => Finset.sum_congr rfl fun u _ => Finset.sum_congr rfl fun v _ => ?_
  pointwise

/-- The places that a channel's sum runs over: those with that channel. -/
theorem channel_fiber (o : Fin 16) (k : S64x16x51x51.Idx) :
    reducesTo_S64x16x51x51_S16_d0_2_3.drop k = ix1 o ↔ ∃ p : Fin 64 × Fin 51 × Fin 51, ix4 p.1 o p.2.1 p.2.2 = k := by
  constructor
  · intro e
    refine ⟨(k 0, k 2, k 3), funext fun a => ?_⟩
    match a with
    | ⟨0, _⟩ => rfl
    | ⟨1, _⟩ => exact Fin.ext (congrArg Fin.val (congrFun e 0)).symm
    | ⟨2, _⟩ => rfl
    | ⟨3, _⟩ => rfl
  · rintro ⟨p, rfl⟩
    funext a
    match a with
    | ⟨0, _⟩ => rfl

/-- A channel's sum is the sum over samples, rows and columns. -/
theorem channelSum_at (h : FVec Ideal S64x16x51x51 .f32) (o : Fin 16) :
    channelSum h (ix1 o) = ∑ n : Fin 64, ∑ i : Fin 51, ∑ j : Fin 51, h (ix4 n o i j) := by
  pointwise [channelSum]
  unfold Ideal.hostReduceAdd
  rw [zero_add, Finset.sum_filter_eq_sum_of_fiber _ (fun p : Fin 64 × Fin 51 × Fin 51 => ix4 p.1 o p.2.1 p.2.2)
    (fun _ _ e => Prod.ext (congrFun e 0) (Prod.ext (congrFun e 2) (congrFun e 3))) (channel_fiber o)]
  simp only [Fintype.sum_prod_type]

end Cert.Proof.Ref

end
-- ==== Proof.RefValue.lean ====
module

public import proofs.«01_k».proof.Proof.RefConv
public import proofs.«01_k».proof.Proof.Numbers

@[expose] public section

set_option maxRecDepth 16384

noncomputable section

namespace Cert.Proof.Ref

open Idealize.ShloMosaic Cert.ReferenceIdeal Cert.ReferenceIdeal.Gen

/-- The mean of one channel. -/
theorem channelMean_at (h : FVec Ideal S64x16x51x51 .f32) (o : Fin 16) :
    channelMean h (ix4 0 o 0 0) = Ideal.div (∑ n : Fin 64, ∑ i : Fin 51, ∑ j : Fin 51, h (ix4 n o i j)) ((166464 : ℝ) : EReal) := by
  rw [← channelSum_at, ← places_val]
  pointwise [channelMean, channelLine, overChannels]

/-- The variance of one channel: the mean of the squared distances from the channel's mean. -/
theorem channelVar_at (h : FVec Ideal S64x16x51x51 .f32) (o : Fin 16) :
    channelVar h (ix4 0 o 0 0)
      = Ideal.div (∑ n : Fin 64, ∑ i : Fin 51, ∑ j : Fin 51,
          (h (ix4 n o i j) - channelMean h (ix4 0 o 0 0)) * (h (ix4 n o i j) - channelMean h (ix4 0 o 0 0)))
        ((166464 : ℝ) : EReal) := by
  pointwise [channelVar, overMap, channelLine, overChannels, channelCount]
  rw [float_zero, sub_zero, places_val, if_pos (by exact_mod_cast (by norm_num : (0 : ℝ) < 166464)), channelSum_at]
  refine congrArg (Ideal.div · _) (Finset.sum_congr rfl fun n _ => Finset.sum_congr rfl fun i _ => Finset.sum_congr rfl fun j _ => ?_)
  pointwise

/-- The batch norm with its relu at a place of the feature map. -/
theorem norm_at (h : FVec Ideal S64x16x51x51 .f32) (g b : FVec Ideal S16 .f32) (n : Fin 64) (o : Fin 16) (i j : Fin 51) :
    norm h g b (ix4 n o i j)
      = max (Ideal.div (h (ix4 n o i j) - channelMean h (ix4 0 o 0 0))
          (Ideal.sqrt (channelVar h (ix4 0 o 0 0) + ((guard : ℝ) : EReal))) * g (ix1 o) + b (ix1 o)) 0 := by
  rw [← guard_val]
  pointwise [norm, overMap, channelLine, overChannels]

/-- One object's place: the sigmoid of the second convolution. -/
theorem objects_at (h : FVec Ideal S64x16x51x51 .f32) (w : FVec Ideal S5x16x1x1 .f32) (b : FVec Ideal S5 .f32) (n : Fin 64) (o : Fin 5)
    (p : Fin 2601) :
    objects h w b (ix3 n o p)
      = Ideal.logistic (∑ ch : Fin 16, w (ix4 o ch 0 0) * h (ix4 n ch ⟨p.val / 51, by omega⟩ ⟨p.val % 51, by omega⟩) + b (ix1 o)) := by
  unfold Ideal.logistic
  pointwise [objects, ones]

/-- The first dense layer at a feature. -/
theorem dense1_at (x : FVec Ideal S64x5x2601 .f32) (w : FVec Ideal S256x2601 .f32) (b : FVec Ideal S256 .f32) (n : Fin 64) (o : Fin 5)
    (i : Fin 256) :
    dense1 x w b (ix3 n o i) = max (∑ p : Fin 2601, x (ix3 n o p) * w (ix2 i p) + b (ix1 i)) 0 := by
  pointwise [dense1, clamp, overRows]

/-- The second dense layer at a feature. -/
theorem dense2_at (x : FVec Ideal S64x5x256 .f32) (w : FVec Ideal S256x256 .f32) (b : FVec Ideal S256 .f32) (n : Fin 64) (o : Fin 5)
    (i : Fin 256) :
    dense2 x w b (ix3 n o i) = ∑ k : Fin 256, x (ix3 n o k) * w (ix2 i k) + b (ix1 i) := by
  pointwise [dense2, overRows]

/-- The mean of one row of features. -/
theorem rowMean_at (z : FVec Ideal S64x5x256 .f32) (n : Fin 64) (o : Fin 5) :
    rowMean z (ix3 n o 0) = Ideal.div (∑ k : Fin 256, z (ix3 n o k)) ((256 : ℝ) : EReal) := by
  rw [← width_val]
  pointwise [rowMean, rowSum, overPairs]

/-- The variance of one row of features. -/
theorem rowVar_at (z : FVec Ideal S64x5x256 .f32) (n : Fin 64) (o : Fin 5) :
    rowVar z (ix3 n o 0)
      = Ideal.div (∑ k : Fin 256, (z (ix3 n o k) - rowMean z (ix3 n o 0)) * (z (ix3 n o k) - rowMean z (ix3 n o 0)))
        ((256 : ℝ) : EReal) := by
  pointwise [rowVar, rowSum, overPairs, rowCount, overFeatures]
  rw [float_zero, sub_zero, width_val, if_pos (by exact_mod_cast (by norm_num : (0 : ℝ) < 256))]

/-- The layer norm with its relu at a feature. -/
theorem layerNorm_at (z : FVec Ideal S64x5x256 .f32) (g b : FVec Ideal S256 .f32) (n : Fin 64) (o : Fin 5) (k : Fin 256) :
    layerNorm z g b (ix3 n o k)
      = max (Ideal.div (z (ix3 n o k) - rowMean z (ix3 n o 0)) (Ideal.sqrt (rowVar z (ix3 n o 0) + ((guard : ℝ) : EReal))) * g (ix1 k)
          + b (ix1 k)) 0 := by
  rw [← guard_val]
  pointwise [layerNorm, clamp, overRows, overPairs, overFeatures]

/-- The last dense layer at an output. -/
theorem dense3_at (x : FVec Ideal S64x5x256 .f32) (w : FVec Ideal S128x256 .f32) (b : FVec Ideal S128 .f32) (n : Fin 64) (o : Fin 5)
    (i : Fin 128) :
    dense3 x w b (ix3 n o i) = ∑ k : Fin 256, x (ix3 n o k) * w (ix2 i k) + b (ix1 i) := by
  pointwise [dense3]

end Cert.Proof.Ref

end
-- ==== Proof.ConvBlock.lean ====
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Conv

open Idealize.ShloMosaic Idealize.ShloMosaic.TcCoe Cert.KernelIdeal Cert.KernelIdeal.Gen

/-- One place of one sample's feature map: the window's 300 pixels, channel by channel and row by row, weighted, and the bias. -/
def feature (x : Vec Ideal S64x3x512x512 .f32) (w : Vec Ideal S16x300 .bf16) (b : Vec Ideal S16x1 .f32) (n : Fin 64) (o : Fin 16)
    (q : Fin 2601) : EReal :=
  ∑ k : Fin 300, w (ix2 o k) * x (ix4 n ⟨k.val / 100, by omega⟩ ⟨q.val / 51 * 10 + k.val / 10 % 10, by omega⟩
      ⟨q.val % 51 * 10 + k.val % 10, by omega⟩) + b (ix2 o 0)

/-- What one block's body computes at a place of its feature map. -/
theorem feature_block (x : Vec Ideal S1x3x512x512 .f32) (w : Vec Ideal S16x300 .bf16) (b : Vec Ideal S16x1 .f32) (o : Fin 16)
    (q : Fin 2601) :
    k0_pay1 x w b (ix2 o q)
      = ∑ k : Fin 300, w (ix2 o k) * x (ix4 0 ⟨k.val / 100, by omega⟩ ⟨q.val / 51 * 10 + k.val / 10 % 10, by omega⟩
          ⟨q.val % 51 * 10 + k.val % 10, by omega⟩) + b (ix2 o 0) := by
  pointwise [k0_pay1]

/-- What the body stores as the block of the feature maps. -/
theorem stored_block (x : Vec Ideal S1x3x512x512 .f32) (w : Vec Ideal S16x300 .bf16) (b : Vec Ideal S16x1 .f32) (o : Fin 16)
    (q : Fin 2601) : k0_pay2 x w b (ix3 0 o q) = k0_pay1 x w b (ix2 o q) := by
  pointwise [k0_pay2]

/-- What the body adds to the channel's sum. -/
theorem sum_block (x : Vec Ideal S1x3x512x512 .f32) (w : Vec Ideal S16x300 .bf16) (b acc : Vec Ideal S16x1 .f32) (o : Fin 16) :
    k0_pay5 x w b acc (ix2 o 0) = acc (ix2 o 0) + ∑ q : Fin 2601, k0_pay1 x w b (ix2 o q) := by
  pointwise [k0_pay5]

/-- What the body adds to the channel's sum of squares. -/
theorem square_block (x : Vec Ideal S1x3x512x512 .f32) (w : Vec Ideal S16x300 .bf16) (b acc : Vec Ideal S16x1 .f32) (o : Fin 16) :
    k0_pay6 x w b acc (ix2 o 0)
      = acc (ix2 o 0) + ∑ q : Fin 2601, k0_pay1 x w b (ix2 o q) * k0_pay1 x w b (ix2 o q) := by
  pointwise [k0_pay6]

/-- The first point's sum starts at zero. -/
theorem sum_start (o : Fin 16) : k0_pay3 (F := Ideal) (ix2 o 0) = (0 : EReal) := by
  pointwise [k0_pay3]

/-- The first point's sum of squares starts at zero. -/
theorem square_start (o : Fin 16) : k0_pay4 (F := Ideal) (ix2 o 0) = (0 : EReal) := by
  pointwise [k0_pay4]

variable (V : (c : Dev nD) → (b : Ref sig .tc) → Buf (Elt Ideal) ((c : Thread nD τ).loc b)) (c : Dev nD)

/-- Each point's image block is that sample. -/
theorem image_index : ∀ t : Fin grid0.N, win0_0.index t = ![t.val, 0, 0, 0] := by decide +kernel

/-- Every point's weight block is the whole matrix. -/
theorem weight_index : ∀ t : Fin grid0.N, win0_1.index t = ![0, 0] := by decide +kernel

/-- Every point's bias block is the whole column. -/
theorem bias_index : ∀ t : Fin grid0.N, win0_2.index t = ![0, 0] := by decide +kernel

/-- Each point's block of the feature maps is that sample's. -/
theorem map_index : ∀ t : Fin grid0.N, win0_3.index t = ![t.val, 0, 0] := by decide +kernel

/-- What the body computes at a point is that sample's feature map. -/
theorem feature_point (t : Fin cfg0.N) (o : Fin 16) (q : Fin 2601) :
    k0_pay1 (F := Ideal) (iblk0 V c 0 t) (iblk0 V c 1 t) (iblk0 V c 2 t) (ix2 o q)
      = feature (V c main_arg0) (V c main_v1) (V c main_v2) ⟨t.val, Nat.lt_of_lt_of_eq t.isLt N_0⟩ o q := by
  rw [feature_block, feature]
  blk_point [iblk0, image_index t, weight_index t, bias_index t]

end Cert.Proof.Conv

end
-- ==== Proof.MlpBlock.lean ====
module

public import proofs.«01_k».proof.Proof.Gen.KernelIdeal.Frame
public import proofs.«01_k».proof.Proof.Numbers
public import Idealize.ShloMosaic.Lib.Pointwise
public import Idealize.ShloMosaic.Lib.Pipeline.ValueKit

@[expose] public section

set_option maxRecDepth 16384

noncomputable section

namespace Cert.Proof.Mlp

open Idealize.ShloMosaic Idealize.ShloMosaic.TcCoe Cert.KernelIdeal Cert.KernelIdeal.Gen

/-- One object's place of one sample: the sigmoid over the channels' scaled, shifted and clamped features. -/
def object (h : Vec Ideal S64x16x2601 .f32) (s t : Vec Ideal S16x1 .f32) (w : Vec Ideal S5x16 .f32) (b : Vec Ideal S5x1x1 .f32)
    (n : Fin 64) (o : Fin 5) (p : Fin 2601) : EReal :=
  Ideal.logistic (∑ ch : Fin 16, w (ix2 o ch) * max (h (ix3 n ch p) * s (ix2 ch 0) + t (ix2 ch 0)) 0 + b (ix3 o 0 0))

/-- A feature of the first dense layer, with its relu. -/
def hidden (x : Fin 2601 → EReal) (w : Vec Ideal S2601x256 .f32) (b : Vec Ideal S1x256 .f32) (k : Fin 256) : EReal :=
  max (∑ p : Fin 2601, x p * w (ix2 p k) + b (ix2 0 k)) 0

/-- The mean of a row of features. -/
def mean (z : Fin 256 → EReal) : EReal := Ideal.div (∑ k, z k) ((256 : ℝ) : EReal)

/-- The kernel's layer norm of a row, with its relu. -/
def normed (z : Fin 256 → EReal) (g b : Vec Ideal S1x256 .f32) (k : Fin 256) : EReal :=
  max ((z k - mean z) * Ideal.rsqrt (Ideal.div (∑ k, z k * z k) ((256 : ℝ) : EReal) - mean z * mean z + ((guard : ℝ) : EReal))
    * g (ix2 0 k) + b (ix2 0 k)) 0

/-- What the second product holds for a row: sample `r % 64`, object `r / 64`. -/
theorem product_block (h : Vec Ideal S64x16x2601 .f32) (s t : Vec Ideal S16x1 .f32) (w : Vec Ideal S5x16 .f32)
    (b : Vec Ideal S5x1x1 .f32) (w1 : Vec Ideal S2601x256 .f32) (b1 : Vec Ideal S1x256 .f32) (w2 : Vec Ideal S256x256 .f32)
    (r : Fin 320) (q : Fin 256) :
    k1_pay2 h s t w b w1 b1 w2 (ix2 r q)
      = ∑ k : Fin 256, hidden (object h s t w b ⟨r.val % 64, by omega⟩ ⟨r.val / 64, by omega⟩) w1 b1 k * w2 (ix2 k q) := by
  unfold hidden object
  pointwise [k1_pay2]

/-- What the body stores for a row, from the second product. -/
theorem output_block (z : FVec Ideal S320x256 .f32) (b2 g b : Vec Ideal S1x256 .f32) (w3 : Vec Ideal S256x128 .f32)
    (b3 : Vec Ideal S1x128 .f32) (r : Fin 320) (q : Fin 128) :
    k1_pay1 z b2 g b w3 b3 (ix2 r q)
      = ∑ k : Fin 256, normed (fun k => z (ix2 r k) + b2 (ix2 0 k)) g b k * w3 (ix2 k q) + b3 (ix2 0 q) := by
  unfold normed mean
  rw [← width_val, ← guard_val]
  pointwise [k1_pay1]

/-- What the second launch computes for a row, from its thirteen inputs. -/
def output (h : Vec Ideal S64x16x2601 .f32) (s t : Vec Ideal S16x1 .f32) (w : Vec Ideal S5x16 .f32)
    (b : Vec Ideal S5x1x1 .f32) (w1 : Vec Ideal S2601x256 .f32) (b1 : Vec Ideal S1x256 .f32) (w2 : Vec Ideal S256x256 .f32)
    (b2 g be : Vec Ideal S1x256 .f32) (w3 : Vec Ideal S256x128 .f32) (b3 : Vec Ideal S1x128 .f32) (n : Fin 64) (o : Fin 5)
    (q : Fin 128) : EReal :=
  ∑ k : Fin 256, normed (fun j => ∑ i : Fin 256, hidden (object h s t w b n o) w1 b1 i * w2 (ix2 i j) + b2 (ix2 0 j)) g be k
    * w3 (ix2 k q) + b3 (ix2 0 q)

/-- The block of the second launch is that row. -/
theorem output_row (h : Vec Ideal S64x16x2601 .f32) (s t : Vec Ideal S16x1 .f32) (w : Vec Ideal S5x16 .f32)
    (b : Vec Ideal S5x1x1 .f32) (w1 : Vec Ideal S2601x256 .f32) (b1 : Vec Ideal S1x256 .f32) (w2 : Vec Ideal S256x256 .f32)
    (b2 g be : Vec Ideal S1x256 .f32) (w3 : Vec Ideal S256x128 .f32) (b3 : Vec Ideal S1x128 .f32) :
    out1_13 h s t w b w1 b1 w2 b2 g be w3 b3
      = fun i : S320x128.Idx => output h s t w b w1 b1 w2 b2 g be w3 b3 ⟨(i 0).val % 64, by omega⟩
          ⟨(i 0).val / 64, by have : (i 0).val < 320 := (i 0).isLt; omega⟩ (i 1) := by
  refine funext fun i => ?_
  obtain ⟨r, q, rfl⟩ : ∃ r q, i = ix2 r q := ⟨i 0, i 1, by idx_vars i⟩
  frame_out
  rw [output_block]
  simp only [product_block]
  rfl

variable (V : (c : Dev nD) → (b : Ref sig .tc) → Buf (Elt Ideal) ((c : Thread nD τ).loc b)) (c : Dev nD)

end Cert.Proof.Mlp

end
-- ==== Proof.Equation.lean ====
module

public import proofs.«01_k».proof.Proof.RefValue
public import proofs.«01_k».proof.Proof.Norms
public import proofs.«01_k».proof.Proof.ConvBlock
public import proofs.«01_k».proof.Proof.MlpBlock
public import Idealize.ShloMosaic.Lib.Claim
public import Idealize.ShloMosaic.Lib.Pipeline.ValueKit.Acc

@[expose] public section

set_option maxRecDepth 16384

noncomputable section

namespace Cert.Proof.Equation

open Idealize.ShloMosaic

/-- The 300 places of a window are its 3 planes of 10 rows of 10. -/
theorem sum_window (f : Fin 3 → Fin 10 → Fin 10 → EReal) :
    ∑ k : Fin 300, f ⟨k.val / 100, by omega⟩ ⟨k.val / 10 % 10, by omega⟩ ⟨k.val % 10, by omega⟩ = ∑ c, ∑ u, ∑ v, f c u v := by
  refine (Fin.sum_divmod_congr (S := 10) (A := 30)
    (f := fun a v => f ⟨a.val / 10, by omega⟩ ⟨a.val % 10, by omega⟩ v) fun k _ _ => ?_).trans ?_
  · exact congrArg (fun a => f a _ _) (Fin.ext (by simp only []; omega))
  · exact Fin.sum_divmod_congr (S := 10) (A := 3) (f := fun c u => ∑ v, f c u v) fun _ _ _ => rfl

/-- The 2601 places of a feature map are its 51 rows of 51. -/
theorem sum_map (f : Fin 51 → Fin 51 → EReal) :
    ∑ q : Fin 2601, f ⟨q.val / 51, by omega⟩ ⟨q.val % 51, by omega⟩ = ∑ i, ∑ j, f i j :=
  Fin.sum_divmod_congr (S := 51) (A := 51) fun _ _ _ => rfl

/-- The kernel's feature is the reference's convolution: the window laid out in one row. -/
theorem feature_eq (x : FVec Ideal ReferenceIdeal.S64x3x512x512 .f32) (w : FVec Ideal ReferenceIdeal.S16x3x10x10 .f32)
    (b : FVec Ideal ReferenceIdeal.S16 .f32) (w' : FVec Ideal KernelIdeal.S16x300 .bf16) (b' : FVec Ideal KernelIdeal.S16x1 .f32)
    (hw : ∀ (o : Fin 16) (k : Fin 300),
      w' (ix2 o k) = w (ix4 o ⟨k.val / 100, by omega⟩ ⟨k.val / 10 % 10, by omega⟩ ⟨k.val % 10, by omega⟩))
    (hb : ∀ o : Fin 16, b' (ix2 o 0) = b (ix1 o)) (n : Fin 64) (o : Fin 16) (q : Fin 2601) :
    Conv.feature x w' b' n o q = Ref.conv x w b (ix4 n o ⟨q.val / 51, by omega⟩ ⟨q.val % 51, by omega⟩) := by
  rw [Ref.conv_at, Conv.feature, hb]
  refine congrArg (· + b (ix1 o)) ?_
  rw [← sum_window]
  refine Finset.sum_congr rfl fun k _ => ?_
  rw [hw]

/-- The kernel's scale and shift of a channel are the reference's batch norm. -/
theorem rect_eq (h : FVec Ideal ReferenceIdeal.S64x16x51x51 .f32) (g b : FVec Ideal ReferenceIdeal.S16 .f32) (o : Fin 16)
    (hg : IsReal (g (ix1 o))) (s q scale shift : EReal)
    (hs : s = ∑ n : Fin 64, ∑ p : Fin 2601, h (ix4 n o ⟨p.val / 51, by omega⟩ ⟨p.val % 51, by omega⟩))
    (hq : q = ∑ n : Fin 64, ∑ p : Fin 2601, h (ix4 n o ⟨p.val / 51, by omega⟩ ⟨p.val % 51, by omega⟩)
      * h (ix4 n o ⟨p.val / 51, by omega⟩ ⟨p.val % 51, by omega⟩))
    (hscale : scale = Ideal.div (g (ix1 o)) (Ideal.sqrt (Ideal.div q ((166464 : ℝ) : EReal)
      - Ideal.div s ((166464 : ℝ) : EReal) * Ideal.div s ((166464 : ℝ) : EReal) + ((guard : ℝ) : EReal))))
    (hshift : shift = b (ix1 o) - Ideal.div s ((166464 : ℝ) : EReal) * scale) (n : Fin 64) (i j : Fin 51) :
    max (h (ix4 n o i j) * scale + shift) 0 = Ref.norm h g b (ix4 n o i j) := by
  have e := batch_norm (fun t : Fin 64 × Fin 51 × Fin 51 => h (ix4 t.1 o t.2.1 t.2.2)) 166464 guard
    (by simp only [Fintype.card_prod, Fintype.card_fin]; norm_num) (by norm_num) guard_pos (g (ix1 o)) (b (ix1 o)) hg (n, i, j)
  simp only [Fintype.sum_prod_type] at e
  have hs' : s = ∑ n : Fin 64, ∑ i : Fin 51, ∑ j : Fin 51, h (ix4 n o i j) :=
    hs.trans (Finset.sum_congr rfl fun n _ => sum_map fun i j => h (ix4 n o i j))
  have hq' : q = ∑ n : Fin 64, ∑ i : Fin 51, ∑ j : Fin 51, h (ix4 n o i j) * h (ix4 n o i j) :=
    hq.trans (Finset.sum_congr rfl fun n _ => sum_map fun i j => h (ix4 n o i j) * h (ix4 n o i j))
  rw [Ref.norm_at, Ref.channelVar_at, Ref.channelMean_at, hshift, hscale, hs', hq', e]

section Rows

variable (h : FVec Ideal ReferenceIdeal.S64x16x51x51 .f32) (w : FVec Ideal ReferenceIdeal.S5x16x1x1 .f32)
  (b : FVec Ideal ReferenceIdeal.S5 .f32)

/-- The kernel's object map is the reference's, when the normalised features are. -/
theorem object_eq (h' : FVec Ideal KernelIdeal.S64x16x2601 .f32) (s t : FVec Ideal KernelIdeal.S16x1 .f32)
    (w' : FVec Ideal KernelIdeal.S5x16 .f32) (b' : FVec Ideal KernelIdeal.S5x1x1 .f32)
    (hh : ∀ (n : Fin 64) (ch : Fin 16) (p : Fin 2601), max (h' (ix3 n ch p) * s (ix2 ch 0) + t (ix2 ch 0)) 0
      = h (ix4 n ch ⟨p.val / 51, by omega⟩ ⟨p.val % 51, by omega⟩))
    (hw : ∀ (o : Fin 5) (ch : Fin 16), w' (ix2 o ch) = w (ix4 o ch 0 0)) (hb : ∀ o : Fin 5, b' (ix3 o 0 0) = b (ix1 o))
    (n : Fin 64) (o : Fin 5) (p : Fin 2601) :
    Mlp.object h' s t w' b' n o p = Ref.objects h w b (ix3 n o p) := by
  rw [Ref.objects_at, Mlp.object, hb]
  refine congrArg (fun a => Ideal.logistic (a + b (ix1 o))) (Finset.sum_congr rfl fun ch _ => ?_)
  rw [hw, hh]

/-- The object map is real. -/
theorem objects_real (n : Fin 64) (o : Fin 5) (p : Fin 2601) : IsReal (Ref.objects h w b (ix3 n o p)) := by
  rw [Ref.objects_at]
  exact real_logistic _

end Rows

/-- The kernel's first dense layer is the reference's. -/
theorem hidden_eq (x : FVec Ideal ReferenceIdeal.S64x5x2601 .f32) (w : FVec Ideal ReferenceIdeal.S256x2601 .f32)
    (b : FVec Ideal ReferenceIdeal.S256 .f32) (w' : FVec Ideal KernelIdeal.S2601x256 .f32) (b' : FVec Ideal KernelIdeal.S1x256 .f32)
    (hw : ∀ (p : Fin 2601) (k : Fin 256), w' (ix2 p k) = w (ix2 k p)) (hb : ∀ k : Fin 256, b' (ix2 0 k) = b (ix1 k))
    (n : Fin 64) (o : Fin 5) (k : Fin 256) :
    Mlp.hidden (fun p => x (ix3 n o p)) w' b' k = Ref.dense1 x w b (ix3 n o k) := by
  rw [Ref.dense1_at, Mlp.hidden, hb]
  refine congrArg (fun a => max (a + b (ix1 k)) 0) (Finset.sum_congr rfl fun p _ => ?_)
  rw [hw]

/-- The first dense layer of real rows with real weights is real. -/
theorem dense1_real (x : FVec Ideal ReferenceIdeal.S64x5x2601 .f32) (w : FVec Ideal ReferenceIdeal.S256x2601 .f32)
    (b : FVec Ideal ReferenceIdeal.S256 .f32) (n : Fin 64) (o : Fin 5) (hx : ∀ p : Fin 2601, IsReal (x (ix3 n o p)))
    (hw : ∀ i, IsReal (w i)) (hb : ∀ i, IsReal (b i)) (k : Fin 256) : IsReal (Ref.dense1 x w b (ix3 n o k)) := by
  rw [Ref.dense1_at]
  exact ((IsReal.sum fun p => (hx p).mul (hw _)).add (hb _)).relu

/-- The second dense layer of real rows with real weights is real. -/
theorem dense2_real (x : FVec Ideal ReferenceIdeal.S64x5x256 .f32) (w : FVec Ideal ReferenceIdeal.S256x256 .f32)
    (b : FVec Ideal ReferenceIdeal.S256 .f32) (n : Fin 64) (o : Fin 5) (hx : ∀ p : Fin 256, IsReal (x (ix3 n o p)))
    (hw : ∀ i, IsReal (w i)) (hb : ∀ i, IsReal (b i)) (k : Fin 256) : IsReal (Ref.dense2 x w b (ix3 n o k)) := by
  rw [Ref.dense2_at]
  exact (IsReal.sum fun p => (hx p).mul (hw _)).add (hb _)

/-- The kernel's layer norm of a real row is the reference's. -/
theorem normed_eq (z : FVec Ideal ReferenceIdeal.S64x5x256 .f32) (g b : FVec Ideal ReferenceIdeal.S256 .f32)
    (g' b' : FVec Ideal KernelIdeal.S1x256 .f32) (hg : ∀ k : Fin 256, g' (ix2 0 k) = g (ix1 k))
    (hb : ∀ k : Fin 256, b' (ix2 0 k) = b (ix1 k)) (n : Fin 64) (o : Fin 5) (hz : ∀ k : Fin 256, IsReal (z (ix3 n o k))) (k : Fin 256) :
    Mlp.normed (fun j => z (ix3 n o j)) g' b' k = Ref.layerNorm z g b (ix3 n o k) := by
  have e := layer_norm (fun j : Fin 256 => z (ix3 n o j)) hz 256 guard (by simp only [Fintype.card_fin]; norm_num) (by norm_num)
    guard_pos k
  rw [Ref.layerNorm_at, Ref.rowVar_at, Ref.rowMean_at, Mlp.normed, Mlp.mean, hg, hb, e]

/-- The kernel's output is the reference's. -/
theorem output_eq (h : FVec Ideal ReferenceIdeal.S64x16x51x51 .f32) (w : FVec Ideal ReferenceIdeal.S5x16x1x1 .f32)
    (b : FVec Ideal ReferenceIdeal.S5 .f32) (w1 : FVec Ideal ReferenceIdeal.S256x2601 .f32) (b1 : FVec Ideal ReferenceIdeal.S256 .f32)
    (w2 : FVec Ideal ReferenceIdeal.S256x256 .f32) (b2 g be : FVec Ideal ReferenceIdeal.S256 .f32)
    (w3 : FVec Ideal ReferenceIdeal.S128x256 .f32) (b3 : FVec Ideal ReferenceIdeal.S128 .f32)
    (h' : FVec Ideal KernelIdeal.S64x16x2601 .f32) (s t : FVec Ideal KernelIdeal.S16x1 .f32)
    (w' : FVec Ideal KernelIdeal.S5x16 .f32) (b' : FVec Ideal KernelIdeal.S5x1x1 .f32)
    (w1' : FVec Ideal KernelIdeal.S2601x256 .f32) (b1' : FVec Ideal KernelIdeal.S1x256 .f32)
    (w2' : FVec Ideal KernelIdeal.S256x256 .f32) (b2' g' be' : FVec Ideal KernelIdeal.S1x256 .f32)
    (w3' : FVec Ideal KernelIdeal.S256x128 .f32) (b3' : FVec Ideal KernelIdeal.S1x128 .f32)
    (hh : ∀ (n : Fin 64) (ch : Fin 16) (p : Fin 2601), max (h' (ix3 n ch p) * s (ix2 ch 0) + t (ix2 ch 0)) 0
      = h (ix4 n ch ⟨p.val / 51, by omega⟩ ⟨p.val % 51, by omega⟩))
    (hw : ∀ (o : Fin 5) (ch : Fin 16), w' (ix2 o ch) = w (ix4 o ch 0 0)) (hb : ∀ o : Fin 5, b' (ix3 o 0 0) = b (ix1 o))
    (hw1 : ∀ (p : Fin 2601) (k : Fin 256), w1' (ix2 p k) = w1 (ix2 k p)) (hb1 : ∀ k : Fin 256, b1' (ix2 0 k) = b1 (ix1 k))
    (hw2 : ∀ p k : Fin 256, w2' (ix2 p k) = w2 (ix2 k p)) (hb2 : ∀ k : Fin 256, b2' (ix2 0 k) = b2 (ix1 k))
    (hg : ∀ k : Fin 256, g' (ix2 0 k) = g (ix1 k)) (hbe : ∀ k : Fin 256, be' (ix2 0 k) = be (ix1 k))
    (hw3 : ∀ (p : Fin 256) (k : Fin 128), w3' (ix2 p k) = w3 (ix2 k p)) (hb3 : ∀ k : Fin 128, b3' (ix2 0 k) = b3 (ix1 k))
    (rw1 : ∀ i, IsReal (w1 i)) (rb1 : ∀ i, IsReal (b1 i)) (rw2 : ∀ i, IsReal (w2 i)) (rb2 : ∀ i, IsReal (b2 i))
    (n : Fin 64) (o : Fin 5) (q : Fin 128) :
    Mlp.output h' s t w' b' w1' b1' w2' b2' g' be' w3' b3' n o q
      = Ref.dense3 (Ref.layerNorm (Ref.dense2 (Ref.dense1 (Ref.objects h w b) w1 b1) w2 b2) g be) w3 b3 (ix3 n o q) := by
  have ho : Mlp.object h' s t w' b' n o = fun p => Ref.objects h w b (ix3 n o p) :=
    funext fun p => object_eq h w b h' s t w' b' hh hw hb n o p
  have hz : (fun j => ∑ i : Fin 256, Mlp.hidden (Mlp.object h' s t w' b' n o) w1' b1' i * w2' (ix2 i j) + b2' (ix2 0 j))
      = fun j => Ref.dense2 (Ref.dense1 (Ref.objects h w b) w1 b1) w2 b2 (ix3 n o j) := by
    funext j
    rw [ho, hb2, Ref.dense2_at]
    refine congrArg (· + b2 (ix1 j)) (Finset.sum_congr rfl fun i _ => ?_)
    rw [hw2, hidden_eq (Ref.objects h w b) w1 b1 w1' b1' hw1 hb1 n o i]
  rw [Ref.dense3_at, Mlp.output, hz, hb3]
  refine congrArg (· + b3 (ix1 q)) (Finset.sum_congr rfl fun k _ => ?_)
  rw [hw3, normed_eq _ g be g' be' hg hbe n o
    (fun k => dense2_real _ w2 b2 n o (fun p => dense1_real _ w1 b1 n o (fun p => objects_real h w b n o p) rw1 rb1 p) rw2 rb2 k) k]

end Cert.Proof.Equation

end
-- ==== Proof.ConvArrays.lean ====
module

public import proofs.«01_k».proof.Proof.ConvBlock

@[expose] public section

set_option maxRecDepth 16384

noncomputable section

namespace Cert.Proof.Conv

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- The feature maps as the first launch finds its arrays. -/
abbrev maps (n : Fin 64) (o : Fin 16) (q : Fin 2601) : EReal := feature (V c main_arg0) (V c main_v1) (V c main_v2) n o q

/-- After any point the feature map's block is the payload of the point's inputs. -/
theorem block_after (t : Fin cfg0.N) :
    (outsAt0 (F := Ideal) V c t.val t.isLt).1 = k0_pay2 (iblk0 V c 0 t) (iblk0 V c 1 t) (iblk0 V c 2 t) := by
  by_cases h : t.val % 64 = 0
  · rw [outsAt0_A V c t h]; frame_out
  · rw [outsAt0_B V c t h]; frame_out

/-- After any point the sum's block has gained the point's sum. -/
theorem sum_step (t : Fin cfg0.N) (h : ¬t.val % 64 = 0) (o : Fin 16) :
    ((outsAt0 (F := Ideal) V c t.val t.isLt).2.1 (ix2 o 0) : EReal)
      = (outsAt0 (F := Ideal) V c (t.val - 1) (Nat.lt_of_le_of_lt (Nat.sub_le _ _) t.isLt)).2.1 (ix2 o 0)
        + ∑ q : Fin 2601, maps V c ⟨t.val, Nat.lt_of_lt_of_eq t.isLt N_0⟩ o q := by
  rw [outsAt0_B V c t h]; frame_out
  rw [sum_block]
  exact congrArg _ (Finset.sum_congr rfl fun q _ => feature_point V c t o q)

/-- The first point leaves its own sum. -/
theorem sum_first (t : Fin cfg0.N) (h : t.val % 64 = 0) (o : Fin 16) :
    ((outsAt0 (F := Ideal) V c t.val t.isLt).2.1 (ix2 o 0) : EReal)
      = 0 + ∑ q : Fin 2601, maps V c ⟨t.val, Nat.lt_of_lt_of_eq t.isLt N_0⟩ o q := by
  rw [outsAt0_A V c t h]; frame_out
  rw [sum_block, sum_start]
  exact congrArg _ (Finset.sum_congr rfl fun q _ => feature_point V c t o q)

/-- After any point the block of the sum of squares has gained the point's squares. -/
theorem square_step (t : Fin cfg0.N) (h : ¬t.val % 64 = 0) (o : Fin 16) :
    ((outsAt0 (F := Ideal) V c t.val t.isLt).2.2 (ix2 o 0) : EReal)
      = (outsAt0 (F := Ideal) V c (t.val - 1) (Nat.lt_of_le_of_lt (Nat.sub_le _ _) t.isLt)).2.2 (ix2 o 0)
        + ∑ q : Fin 2601, maps V c ⟨t.val, Nat.lt_of_lt_of_eq t.isLt N_0⟩ o q * maps V c ⟨t.val, Nat.lt_of_lt_of_eq t.isLt N_0⟩ o q := by
  rw [outsAt0_B V c t h]; frame_out
  rw [square_block]
  exact congrArg _ (Finset.sum_congr rfl fun q _ => congrArg₂ (· * ·) (feature_point V c t o q) (feature_point V c t o q))

/-- The first point leaves its own squares. -/
theorem square_first (t : Fin cfg0.N) (h : t.val % 64 = 0) (o : Fin 16) :
    ((outsAt0 (F := Ideal) V c t.val t.isLt).2.2 (ix2 o 0) : EReal)
      = 0 + ∑ q : Fin 2601, maps V c ⟨t.val, Nat.lt_of_lt_of_eq t.isLt N_0⟩ o q * maps V c ⟨t.val, Nat.lt_of_lt_of_eq t.isLt N_0⟩ o q := by
  rw [outsAt0_A V c t h]; frame_out
  rw [square_block, square_start]
  exact congrArg _ (Finset.sum_congr rfl fun q _ => congrArg₂ (· * ·) (feature_point V c t o q) (feature_point V c t o q))

/-- A quantity that starts at the first point's term and gains each later point's is, after the last point, their sum. -/
theorem run_total (f : (n : ℕ) → n < cfg0.N → EReal) (g : Fin 64 → EReal)
    (first : ∀ t : Fin cfg0.N, t.val % 64 = 0 → f t.val t.isLt = 0 + g ⟨t.val, Nat.lt_of_lt_of_eq t.isLt N_0⟩)
    (step : ∀ t : Fin cfg0.N, ¬t.val % 64 = 0 → f t.val t.isLt
      = f (t.val - 1) (Nat.lt_of_le_of_lt (Nat.sub_le _ _) t.isLt) + g ⟨t.val, Nat.lt_of_lt_of_eq t.isLt N_0⟩)
    (t : Fin cfg0.N) (last : t.val % 64 = 64 - 1) : f t.val t.isLt = ∑ n : Fin 64, g n := by
  have e := Pipeline.eq_sum_fin_of_reset_step_of_flush f 64 0 (fun t => g ⟨t.val, Nat.lt_of_lt_of_eq t.isLt N_0⟩) first step t last
  rw [e, zero_add]
  refine Finset.sum_congr rfl fun n _ => congrArg g (Fin.ext ?_)
  have : t.val < 64 := Nat.lt_of_lt_of_eq t.isLt N_0
  show 64 * (t.val / 64) + n.val = n.val
  omega

/-- The array of feature maps after the first launch. -/
theorem maps_array : (dat0 (F := Ideal) V c).arrAt 3 cfg0.N = fun i : S64x16x2601.Idx => maps V c (i 0) (i 1) (i 2) := by
  refine (dat0 V c).arrAt_eq_of_covers 3 _ (by decide +kernel) fun t hf y => ?_
  rw [after0_3, block_after]
  obtain ⟨z, o, q, rfl⟩ : ∃ z o q, y = ix3 z o q := ⟨y 0, y 1, y 2, by idx_vars y⟩
  obtain rfl : z = 0 := Fin.eq_zero z
  refine (stored_block _ _ _ o q).trans ((feature_point V c t o q).trans
    (congrArg (fun i : S64x16x2601.Idx => maps V c (i 0) (i 1) (i 2))
      (?_ : ix3 (⟨t.val, Nat.lt_of_lt_of_eq t.isLt N_0⟩ : Fin 64) o q = ((cfg0.win 3).blk t).view.emb (ix3 0 o q))))
  blk_ext [map_index t]

/-- Every point's block of the sums is the whole column. -/
theorem sum_index : ∀ t : Fin grid0.N, win0_4.index t = ![0, 0] := by decide +kernel

/-- Every point's block of the sums of squares is the whole column. -/
theorem square_index : ∀ t : Fin grid0.N, win0_5.index t = ![0, 0] := by decide +kernel

/-- A channel's sum over samples and places. -/
def channelTotal (o : Fin 16) : EReal := ∑ n : Fin 64, ∑ q : Fin 2601, maps V c n o q

/-- A channel's sum of squares over samples and places. -/
def channelSquares (o : Fin 16) : EReal := ∑ n : Fin 64, ∑ q : Fin 2601, maps V c n o q * maps V c n o q

/-- After the last point the sum's block holds the channel's sum. -/
theorem sum_last (t : Fin cfg0.N) (last : t.val % 64 = 64 - 1) (o : Fin 16) :
    ((outsAt0 (F := Ideal) V c t.val t.isLt).2.1 (ix2 o 0) : EReal) = channelTotal V c o :=
  run_total (fun n h => (outsAt0 (F := Ideal) V c n h).2.1 (ix2 o 0)) (fun n => ∑ q : Fin 2601, maps V c n o q)
    (fun t h => sum_first V c t h o) (fun t h => sum_step V c t h o) t last

/-- After the last point the block of the sum of squares holds the channel's. -/
theorem square_last (t : Fin cfg0.N) (last : t.val % 64 = 64 - 1) (o : Fin 16) :
    ((outsAt0 (F := Ideal) V c t.val t.isLt).2.2 (ix2 o 0) : EReal) = channelSquares V c o :=
  run_total (fun n h => (outsAt0 (F := Ideal) V c n h).2.2 (ix2 o 0)) (fun n => ∑ q : Fin 2601, maps V c n o q * maps V c n o q)
    (fun t h => square_first V c t h o) (fun t h => square_step V c t h o) t last

/-- After the last point the sum's block, whole. -/
theorem sum_block_last (t : Fin cfg0.N) (last : t.val % 64 = 64 - 1) :
    (outsAt0 (F := Ideal) V c t.val t.isLt).2.1 = fun i : S16x1.Idx => channelTotal V c (i 0) := by
  refine funext fun i => ?_
  obtain ⟨o, z, rfl⟩ : ∃ o z, i = ix2 o z := ⟨i 0, i 1, by idx_vars i⟩
  obtain rfl : z = 0 := Fin.eq_zero z
  exact sum_last V c t last o

/-- After the last point the block of the sum of squares, whole. -/
theorem square_block_last (t : Fin cfg0.N) (last : t.val % 64 = 64 - 1) :
    (outsAt0 (F := Ideal) V c t.val t.isLt).2.2 = fun i : S16x1.Idx => channelSquares V c (i 0) := by
  refine funext fun i => ?_
  obtain ⟨o, z, rfl⟩ : ∃ o z, i = ix2 o z := ⟨i 0, i 1, by idx_vars i⟩
  obtain rfl : z = 0 := Fin.eq_zero z
  exact square_last V c t last o

/-- The channels' sums after the first launch. -/
theorem sums_array : (dat0 (F := Ideal) V c).arrAt 4 cfg0.N = fun i : S16x1.Idx => channelTotal V c (i 0) := by
  refine (dat0 V c).arrAt_eq_of_covers 4 _ (by decide +kernel) fun t hf y => ?_
  rw [after0_4, sum_block_last V c t ((flush0_4 t).mp hf)]
  generalize channelTotal V c = total
  refine congrArg total (Fin.ext ?_)
  blk_simp [sum_index t]

/-- The channels' sums of squares after the first launch. -/
theorem squares_array : (dat0 (F := Ideal) V c).arrAt 5 cfg0.N = fun i : S16x1.Idx => channelSquares V c (i 0) := by
  refine (dat0 V c).arrAt_eq_of_covers 5 _ (by decide +kernel) fun t hf y => ?_
  rw [after0_5, square_block_last V c t ((flush0_5 t).mp hf)]
  generalize channelSquares V c = total
  refine congrArg total (Fin.ext ?_)
  blk_simp [square_index t]

end Cert.Proof.Conv

end
-- ==== Proof.MlpArray.lean ====
module

public import proofs.«01_k».proof.Proof.MlpBlock

@[expose] public section

set_option maxRecDepth 16384

noncomputable section

namespace Cert.Proof.Mlp

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- Every window of the second launch starts at its array's origin. -/
theorem origin (w : Fin cfg1.W) (a : Fin (cfg1.win w).shape.rank) : (cfg1.win w).index t1_0 a = 0 := by
  revert w a; decide +kernel

/-- The second launch reads the feature maps whole. -/
theorem input_0 : iblk1 (F := Ideal) V c 0 t1_0 = V c main_v3_0 := by
  refine funext fun j => ?_
  blk_ext [iblk1, origin 0]

/-- The second launch reads the scales whole. -/
theorem input_1 : iblk1 (F := Ideal) V c 1 t1_0 = V c main_v14 := by
  refine funext fun j => ?_
  blk_ext [iblk1, origin 1]

/-- The second launch reads the shifts whole. -/
theorem input_2 : iblk1 (F := Ideal) V c 2 t1_0 = V c main_v17 := by
  refine funext fun j => ?_
  blk_ext [iblk1, origin 2]

/-- The second launch reads the second convolution's weights whole. -/
theorem input_3 : iblk1 (F := Ideal) V c 3 t1_0 = V c main_v18 := by
  refine funext fun j => ?_
  blk_ext [iblk1, origin 3]

/-- The second launch reads the second convolution's bias whole. -/
theorem input_4 : iblk1 (F := Ideal) V c 4 t1_0 = V c main_v19 := by
  refine funext fun j => ?_
  blk_ext [iblk1, origin 4]

/-- The second launch reads the first dense weights whole. -/
theorem input_5 : iblk1 (F := Ideal) V c 5 t1_0 = V c main_v20 := by
  refine funext fun j => ?_
  blk_ext [iblk1, origin 5]

/-- The second launch reads the first dense bias whole. -/
theorem input_6 : iblk1 (F := Ideal) V c 6 t1_0 = V c main_v21 := by
  refine funext fun j => ?_
  blk_ext [iblk1, origin 6]

/-- The second launch reads the second dense weights whole. -/
theorem input_7 : iblk1 (F := Ideal) V c 7 t1_0 = V c main_v22 := by
  refine funext fun j => ?_
  blk_ext [iblk1, origin 7]

/-- The second launch reads the second dense bias whole. -/
theorem input_8 : iblk1 (F := Ideal) V c 8 t1_0 = V c main_v23 := by
  refine funext fun j => ?_
  blk_ext [iblk1, origin 8]

/-- The second launch reads the layer norm's scale whole. -/
theorem input_9 : iblk1 (F := Ideal) V c 9 t1_0 = V c main_v24 := by
  refine funext fun j => ?_
  blk_ext [iblk1, origin 9]

/-- The second launch reads the layer norm's bias whole. -/
theorem input_10 : iblk1 (F := Ideal) V c 10 t1_0 = V c main_v25 := by
  refine funext fun j => ?_
  blk_ext [iblk1, origin 10]

/-- The second launch reads the last dense weights whole. -/
theorem input_11 : iblk1 (F := Ideal) V c 11 t1_0 = V c main_v26 := by
  refine funext fun j => ?_
  blk_ext [iblk1, origin 11]

/-- The second launch reads the last dense bias whole. -/
theorem input_12 : iblk1 (F := Ideal) V c 12 t1_0 = V c main_v27 := by
  refine funext fun j => ?_
  blk_ext [iblk1, origin 12]

/-- The result array after the second launch. -/
theorem output_array :
    (dat1 (F := Ideal) V c).arrAt 13 cfg1.N
      = fun i : S320x128.Idx => output (V c main_v3_0) (V c main_v14) (V c main_v17) (V c main_v18) (V c main_v19) (V c main_v20) (V c main_v21) (V c main_v22) (V c main_v23) (V c main_v24) (V c main_v25) (V c main_v26) (V c main_v27)
          ⟨(i 0).val % 64, by omega⟩ ⟨(i 0).val / 64, by have : (i 0).val < 320 := (i 0).isLt; omega⟩ (i 1) := by
  refine (dat1 V c).arrAt_eq_of_after_last 13 t1_0 (by decide +kernel) _ fun j => ?_
  rw [after1_13, input_0, input_1, input_2, input_3, input_4, input_5, input_6, input_7, input_8, input_9, input_10, input_11, input_12, output_row]
  rfl

end Cert.Proof.Mlp

end
-- ==== Proof.HostStage.lean ====
module

public import proofs.«01_k».proof.Proof.ConvArrays
public import proofs.«01_k».proof.Proof.MlpArray
public import Idealize.ShloMosaic.Lib.Claim
public import Idealize.ShloMosaic.Lib.StableHlo.Run

@[expose] public section

set_option maxRecDepth 16384

noncomputable section

namespace Cert.Proof.Stage

open Idealize.ShloMosaic Idealize.ShloMosaic.TcCoe Cert.KernelIdeal Cert.KernelIdeal.Gen

/-- A channel's average from its sum. -/
def average (s : FVec Ideal S16x1 .f32) : FVec Ideal S16x1 .f32 :=
  Host.divf s (broadcastInDim S16x1 ![] bcast_S_S16x1 (constant S_ .f32 0x48229000#32))

/-- The channels' scales from their sums, their sums of squares and the batch norm's weights. -/
def scale (s q : FVec Ideal S16x1 .f32) (g : FVec Ideal S16 .f32) : FVec Ideal S16x1 .f32 :=
  Host.divf (shapeCast S16x1 g shapeCasts_S16_S16x1)
    (Host.sqrt (addf (subf (average q) (mulf (average s) (average s)))
      (broadcastInDim S16x1 ![] bcast_S_S16x1 (constant S_ .f32 0x3727C5AC#32))))

/-- The channels' shifts. -/
def shift (s q : FVec Ideal S16x1 .f32) (g b : FVec Ideal S16 .f32) : FVec Ideal S16x1 .f32 :=
  subf (shapeCast S16x1 b shapeCasts_S16_S16x1) (mulf (average s) (scale s q g))

/-- A channel's scale. -/
theorem scale_at (s q : FVec Ideal S16x1 .f32) (g : FVec Ideal S16 .f32) (o : Fin 16) :
    scale s q g (ix2 o 0)
      = Ideal.div (g (ix1 o)) (Ideal.sqrt (Ideal.div (q (ix2 o 0)) ((166464 : ℝ) : EReal)
          - Ideal.div (s (ix2 o 0)) ((166464 : ℝ) : EReal) * Ideal.div (s (ix2 o 0)) ((166464 : ℝ) : EReal)
          + ((guard : ℝ) : EReal))) := by
  rw [← places_val, ← guard_val]
  pointwise [scale, average]

/-- A channel's shift. -/
theorem shift_at (s q : FVec Ideal S16x1 .f32) (g b : FVec Ideal S16 .f32) (o : Fin 16) :
    shift s q g b (ix2 o 0)
      = b (ix1 o) - Ideal.div (s (ix2 o 0)) ((166464 : ℝ) : EReal) * scale s q g (ix2 o 0) := by
  rw [← places_val]
  pointwise [shift, average]

variable (σ : Valuation τ sig (Elt Ideal))

/-- The scales between the launches. -/
theorem after_scale : (StableHlo.after (hostOps1 (F := Ideal)) σ (Proc.devRef .tc main_v14) : FVec Ideal S16x1 .f32)
    = scale (σ (Proc.devRef .tc main_v3_1)) (σ (Proc.devRef .tc main_v3_2)) (σ (Proc.devRef .tc main_arg3)) := by
  unfold scale average
  after_results
  rfl

/-- The shifts between the launches. -/
theorem after_shift : (StableHlo.after (hostOps1 (F := Ideal)) σ (Proc.devRef .tc main_v17) : FVec Ideal S16x1 .f32)
    = shift (σ (Proc.devRef .tc main_v3_1)) (σ (Proc.devRef .tc main_v3_2)) (σ (Proc.devRef .tc main_arg3))
      (σ (Proc.devRef .tc main_arg4)) := by
  unfold shift scale average
  after_results
  rfl

/-- The object weights, laid out for the second launch. -/
theorem after_objects_weight (o : Fin 5) (k : Fin 16) :
    (StableHlo.after (hostOps1 (F := Ideal)) σ (Proc.devRef .tc main_v18) : FVec Ideal S5x16 .f32) (ix2 o k)
      = (σ (Proc.devRef .tc main_arg5) : FVec Ideal S5x16x1x1 .f32) (ix4 o k 0 0) := by
  have e : (StableHlo.after (hostOps1 (F := Ideal)) σ (Proc.devRef .tc main_v18) : FVec Ideal S5x16 .f32)
      = shapeCast S5x16 (σ (Proc.devRef .tc main_arg5) : FVec Ideal S5x16x1x1 .f32) shapeCasts_S5x16x1x1_S5x16 := by
    after_results
    rfl
  rw [e]
  pointwise []

/-- The object biases. -/
theorem after_objects_bias (o : Fin 5) :
    (StableHlo.after (hostOps1 (F := Ideal)) σ (Proc.devRef .tc main_v19) : FVec Ideal S5x1x1 .f32) (ix3 o 0 0)
      = (σ (Proc.devRef .tc main_arg6) : FVec Ideal S5 .f32) (ix1 o) := by
  have e : (StableHlo.after (hostOps1 (F := Ideal)) σ (Proc.devRef .tc main_v19) : FVec Ideal S5x1x1 .f32)
      = shapeCast S5x1x1 (σ (Proc.devRef .tc main_arg6) : FVec Ideal S5 .f32) shapeCasts_S5_S5x1x1 := by
    after_results
    rfl
  rw [e]
  pointwise []

/-- The first dense layer's biases. -/
theorem after_dense1_bias (k : Fin 256) :
    (StableHlo.after (hostOps1 (F := Ideal)) σ (Proc.devRef .tc main_v21) : FVec Ideal S1x256 .f32) (ix2 0 k)
      = (σ (Proc.devRef .tc main_arg8) : FVec Ideal S256 .f32) (ix1 k) := by
  have e : (StableHlo.after (hostOps1 (F := Ideal)) σ (Proc.devRef .tc main_v21) : FVec Ideal S1x256 .f32)
      = shapeCast S1x256 (σ (Proc.devRef .tc main_arg8) : FVec Ideal S256 .f32) shapeCasts_S256_S1x256 := by
    after_results
    rfl
  rw [e]
  pointwise []

/-- The second dense layer's biases. -/
theorem after_dense2_bias (k : Fin 256) :
    (StableHlo.after (hostOps1 (F := Ideal)) σ (Proc.devRef .tc main_v23) : FVec Ideal S1x256 .f32) (ix2 0 k)
      = (σ (Proc.devRef .tc main_arg10) : FVec Ideal S256 .f32) (ix1 k) := by
  have e : (StableHlo.after (hostOps1 (F := Ideal)) σ (Proc.devRef .tc main_v23) : FVec Ideal S1x256 .f32)
      = shapeCast S1x256 (σ (Proc.devRef .tc main_arg10) : FVec Ideal S256 .f32) shapeCasts_S256_S1x256 := by
    after_results
    rfl
  rw [e]
  pointwise []

/-- The layer norm's weights. -/
theorem after_row_weight (k : Fin 256) :
    (StableHlo.after (hostOps1 (F := Ideal)) σ (Proc.devRef .tc main_v24) : FVec Ideal S1x256 .f32) (ix2 0 k)
      = (σ (Proc.devRef .tc main_arg11) : FVec Ideal S256 .f32) (ix1 k) := by
  have e : (StableHlo.after (hostOps1 (F := Ideal)) σ (Proc.devRef .tc main_v24) : FVec Ideal S1x256 .f32)
      = shapeCast S1x256 (σ (Proc.devRef .tc main_arg11) : FVec Ideal S256 .f32) shapeCasts_S256_S1x256 := by
    after_results
    rfl
  rw [e]
  pointwise []

/-- The layer norm's biases. -/
theorem after_row_bias (k : Fin 256) :
    (StableHlo.after (hostOps1 (F := Ideal)) σ (Proc.devRef .tc main_v25) : FVec Ideal S1x256 .f32) (ix2 0 k)
      = (σ (Proc.devRef .tc main_arg12) : FVec Ideal S256 .f32) (ix1 k) := by
  have e : (StableHlo.after (hostOps1 (F := Ideal)) σ (Proc.devRef .tc main_v25) : FVec Ideal S1x256 .f32)
      = shapeCast S1x256 (σ (Proc.devRef .tc main_arg12) : FVec Ideal S256 .f32) shapeCasts_S256_S1x256 := by
    after_results
    rfl
  rw [e]
  pointwise []

/-- The last dense layer's biases. -/
theorem after_dense3_bias (k : Fin 128) :
    (StableHlo.after (hostOps1 (F := Ideal)) σ (Proc.devRef .tc main_v27) : FVec Ideal S1x128 .f32) (ix2 0 k)
      = (σ (Proc.devRef .tc main_arg14) : FVec Ideal S128 .f32) (ix1 k) := by
  have e : (StableHlo.after (hostOps1 (F := Ideal)) σ (Proc.devRef .tc main_v27) : FVec Ideal S1x128 .f32)
      = shapeCast S1x128 (σ (Proc.devRef .tc main_arg14) : FVec Ideal S128 .f32) shapeCasts_S128_S1x128 := by
    after_results
    rfl
  rw [e]
  pointwise []

/-- The first dense layer's weights, transposed. -/
theorem after_dense1_weight (p : Fin 2601) (k : Fin 256) :
    (StableHlo.after (hostOps1 (F := Ideal)) σ (Proc.devRef .tc main_v20) : FVec Ideal S2601x256 .f32) (ix2 p k)
      = (σ (Proc.devRef .tc main_arg7) : FVec Ideal S256x2601 .f32) (ix2 k p) := by
  have e : (StableHlo.after (hostOps1 (F := Ideal)) σ (Proc.devRef .tc main_v20) : FVec Ideal S2601x256 .f32)
      = transpose S2601x256 [1, 0] (σ (Proc.devRef .tc main_arg7) : FVec Ideal S256x2601 .f32) transposes_S256x2601_S2601x256_1_0 := by
    after_results
  rw [e]
  pointwise []

/-- The second dense layer's weights, transposed. -/
theorem after_dense2_weight (p k : Fin 256) :
    (StableHlo.after (hostOps1 (F := Ideal)) σ (Proc.devRef .tc main_v22) : FVec Ideal S256x256 .f32) (ix2 p k)
      = (σ (Proc.devRef .tc main_arg9) : FVec Ideal S256x256 .f32) (ix2 k p) := by
  have e : (StableHlo.after (hostOps1 (F := Ideal)) σ (Proc.devRef .tc main_v22) : FVec Ideal S256x256 .f32)
      = transpose S256x256 [1, 0] (σ (Proc.devRef .tc main_arg9) : FVec Ideal S256x256 .f32) transposes_S256x256_S256x256_1_0 := by
    after_results
  rw [e]
  pointwise []

/-- The last dense layer's weights, transposed. -/
theorem after_dense3_weight (p : Fin 256) (k : Fin 128) :
    (StableHlo.after (hostOps1 (F := Ideal)) σ (Proc.devRef .tc main_v26) : FVec Ideal S256x128 .f32) (ix2 p k)
      = (σ (Proc.devRef .tc main_arg13) : FVec Ideal S128x256 .f32) (ix2 k p) := by
  have e : (StableHlo.after (hostOps1 (F := Ideal)) σ (Proc.devRef .tc main_v26) : FVec Ideal S256x128 .f32)
      = transpose S256x128 [1, 0] (σ (Proc.devRef .tc main_arg13) : FVec Ideal S128x256 .f32) transposes_S128x256_S256x128_1_0 := by
    after_results
  rw [e]
  pointwise []

/-- The convolution's weights before the first launch: each channel's window in one row of 300. -/
theorem after_window (o : Fin 16) (k : Fin 300) :
    (StableHlo.after (hostOps0 (F := Ideal)) σ (Proc.devRef .tc main_v1) : FVec Ideal S16x300 .bf16) (ix2 o k)
      = (σ (Proc.devRef .tc main_arg1) : FVec Ideal S16x3x10x10 .f32)
          (ix4 o ⟨k.val / 100, by omega⟩ ⟨k.val / 10 % 10, by omega⟩ ⟨k.val % 10, by omega⟩) := by
  have e : (StableHlo.after (hostOps0 (F := Ideal)) σ (Proc.devRef .tc main_v1) : FVec Ideal S16x300 .bf16)
      = (truncf .bf16 (shapeCast S16x300 (σ (Proc.devRef .tc main_arg1) : FVec Ideal S16x3x10x10 .f32)
          shapeCasts_S16x3x10x10_S16x300) bitsLt_bf16_f32 : FVec Ideal S16x300 .bf16) := by
    after_results
    rfl
  rw [e]
  pointwise []

/-- The convolution's biases before the first launch. -/
theorem after_bias (o : Fin 16) :
    (StableHlo.after (hostOps0 (F := Ideal)) σ (Proc.devRef .tc main_v2) : FVec Ideal S16x1 .f32) (ix2 o 0)
      = (σ (Proc.devRef .tc main_arg2) : FVec Ideal S16 .f32) (ix1 o) := by
  have e : (StableHlo.after (hostOps0 (F := Ideal)) σ (Proc.devRef .tc main_v2) : FVec Ideal S16x1 .f32)
      = shapeCast S16x1 (σ (Proc.devRef .tc main_arg2) : FVec Ideal S16 .f32) shapeCasts_S16_S16x1 := by
    after_results
    rfl
  rw [e]
  pointwise []

/-- The result after the second launch: its rows, grouped by image. -/
theorem after_result (n : Fin 64) (o : Fin 5) (q : Fin 128) :
    (StableHlo.after (hostOps2 (F := Ideal)) σ (Proc.devRef .tc main_v30) : FVec Ideal S64x5x128 .f32) (ix3 n o q)
      = (σ (Proc.devRef .tc main_v28) : FVec Ideal S320x128 .f32) (ix2 ⟨o.val * 64 + n.val, by omega⟩ q) := by
  have e : (StableHlo.after (hostOps2 (F := Ideal)) σ (Proc.devRef .tc main_v30) : FVec Ideal S64x5x128 .f32)
      = transpose S64x5x128 [1, 0, 2] (shapeCast S5x64x128 (σ (Proc.devRef .tc main_v28) : FVec Ideal S320x128 .f32)
          shapeCasts_S320x128_S5x64x128) transposes_S5x64x128_S64x5x128_1_0_2 := by
    after_results
    rfl
  rw [e]
  pointwise []

end Cert.Proof.Stage

end
-- ==== Proof.Contents.lean ====
module

public import proofs.«01_k».proof.Proof.Equation
public import proofs.«01_k».proof.Proof.HostStage

@[expose] public section

set_option maxRecDepth 16384

noncomputable section

namespace Cert.Proof.Contents

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The reference's convolution of the kernel's arguments. -/
abbrev conv : FVec Ideal ReferenceIdeal.S64x16x51x51 .f32 :=
  Ref.conv (m ((c : Thread nD τ).loc main_arg0)) (m ((c : Thread nD τ).loc main_arg1)) (m ((c : Thread nD τ).loc main_arg2))

/-- The feature maps the second launch reads. -/
abbrev features : FVec Ideal S64x16x2601 .f32 := V3 m ρ c main_v3_0

/-- The channels' sums the first launch leaves. -/
abbrev sums : FVec Ideal S16x1 .f32 := W2 m ρ c (Proc.devRef .tc main_v3_1)

/-- The channels' sums of squares the first launch leaves. -/
abbrev squares : FVec Ideal S16x1 .f32 := W2 m ρ c (Proc.devRef .tc main_v3_2)

/-- The channels' scales the second launch reads. -/
abbrev scales : FVec Ideal S16x1 .f32 := V3 m ρ c main_v14

/-- The channels' shifts the second launch reads. -/
abbrev shifts : FVec Ideal S16x1 .f32 := V3 m ρ c main_v17

/-- The feature maps of the first launch are the reference's convolution. -/
theorem maps_eq (n : Fin 64) (o : Fin 16) (q : Fin 2601) :
    Conv.maps (V1 m ρ) c n o q = conv m c (ix4 n o ⟨q.val / 51, by omega⟩ ⟨q.val % 51, by omega⟩) := by
  have e : V1 m ρ c main_arg0 = m ((c : Thread nD τ).loc main_arg0) := W1_args m ρ c main_arg0 (by decide)
  unfold Conv.maps
  rw [e]
  exact Equation.feature_eq _ _ _ _ _ (fun o k => Stage.after_window (W0 m ρ c) o k) (fun o => Stage.after_bias (W0 m ρ c) o) n o q

/-- What the second launch finds of the feature maps. -/
theorem maps_at (n : Fin 64) (o : Fin 16) (q : Fin 2601) :
    features m ρ c (ix3 n o q)
      = conv m c (ix4 n o ⟨q.val / 51, by omega⟩ ⟨q.val % 51, by omega⟩) := by
  have e : features m ρ c = fun i : S64x16x2601.Idx => Conv.maps (V1 m ρ) c (i 0) (i 1) (i 2) :=
    (W3_of m ρ c main_v3_0 (by decide)).trans ((W2_arr m ρ c 3).trans (Conv.maps_array (V1 m ρ) c))
  rw [e]
  exact maps_eq m ρ c n o q

/-- The channels' sums at the end of the first launch. -/
theorem sums_at (o : Fin 16) :
    sums m ρ c (ix2 o 0)
      = ∑ n : Fin 64, ∑ q : Fin 2601, conv m c (ix4 n o ⟨q.val / 51, by omega⟩ ⟨q.val % 51, by omega⟩) := by
  have e : sums m ρ c = fun i : S16x1.Idx => Conv.channelTotal (V1 m ρ) c (i 0) :=
    (W2_arr m ρ c 4).trans (Conv.sums_array (V1 m ρ) c)
  rw [e]
  exact Finset.sum_congr rfl fun n _ => Finset.sum_congr rfl fun q _ => maps_eq m ρ c n o q

/-- The channels' sums of squares at the end of the first launch. -/
theorem squares_at (o : Fin 16) :
    squares m ρ c (ix2 o 0)
      = ∑ n : Fin 64, ∑ q : Fin 2601, conv m c (ix4 n o ⟨q.val / 51, by omega⟩ ⟨q.val % 51, by omega⟩)
          * conv m c (ix4 n o ⟨q.val / 51, by omega⟩ ⟨q.val % 51, by omega⟩) := by
  have e : squares m ρ c = fun i : S16x1.Idx => Conv.channelSquares (V1 m ρ) c (i 0) :=
    (W2_arr m ρ c 5).trans (Conv.squares_array (V1 m ρ) c)
  rw [e]
  exact Finset.sum_congr rfl fun n _ => Finset.sum_congr rfl fun q _ =>
    congrArg (fun a : EReal => a * a) (maps_eq m ρ c n o q)

/-- The normalised features: scale, shift and relu give the reference's batch norm. -/
theorem rect_at (hg : ∀ i, IsReal ((m ((c : Thread nD τ).loc main_arg3) : FVec Ideal S16 .f32) i)) (n : Fin 64) (o : Fin 16)
    (p : Fin 2601) :
    max (features m ρ c (ix3 n o p) * scales m ρ c (ix2 o 0)
        + shifts m ρ c (ix2 o 0)) 0
      = Ref.norm (conv m c) (m ((c : Thread nD τ).loc main_arg3)) (m ((c : Thread nD τ).loc main_arg4))
          (ix4 n o ⟨p.val / 51, by omega⟩ ⟨p.val % 51, by omega⟩) := by
  have e14 : scales m ρ c = _ := Stage.after_scale (W2 m ρ c)
  have e17 : shifts m ρ c = _ := Stage.after_shift (W2 m ρ c)
  rw [W2_args m ρ c main_arg3 (by decide)] at e14 e17
  rw [W2_args m ρ c main_arg4 (by decide)] at e17
  rw [maps_at, e14, e17]
  exact Equation.rect_eq (conv m c) _ _ o (hg _) _ _ _ _ (sums_at m ρ c o) (squares_at m ρ c o) (Stage.scale_at _ _ _ o)
    (Stage.shift_at _ _ _ _ o) n _ _

/-- What the kernel's result holds: the reference's stages applied to the kernel's arguments. -/
def expected : FVec Ideal S64x5x128 .f32 :=
  Ref.dense3 (Ref.layerNorm (Ref.dense2 (Ref.dense1 (Ref.objects
    (Ref.norm (conv m c) (m ((c : Thread nD τ).loc main_arg3)) (m ((c : Thread nD τ).loc main_arg4)))
    (m ((c : Thread nD τ).loc main_arg5)) (m ((c : Thread nD τ).loc main_arg6)))
    (m ((c : Thread nD τ).loc main_arg7)) (m ((c : Thread nD τ).loc main_arg8)))
    (m ((c : Thread nD τ).loc main_arg9)) (m ((c : Thread nD τ).loc main_arg10)))
    (m ((c : Thread nD τ).loc main_arg11)) (m ((c : Thread nD τ).loc main_arg12)))
    (m ((c : Thread nD τ).loc main_arg13)) (m ((c : Thread nD τ).loc main_arg14))

/-- The kernel's result at an index. -/
theorem result_at (hg : ∀ i, IsReal ((m ((c : Thread nD τ).loc main_arg3) : FVec Ideal S16 .f32) i))
    (h7 : ∀ i, IsReal ((m ((c : Thread nD τ).loc main_arg7) : FVec Ideal S256x2601 .f32) i))
    (h8 : ∀ i, IsReal ((m ((c : Thread nD τ).loc main_arg8) : FVec Ideal S256 .f32) i))
    (h9 : ∀ i, IsReal ((m ((c : Thread nD τ).loc main_arg9) : FVec Ideal S256x256 .f32) i))
    (h10 : ∀ i, IsReal ((m ((c : Thread nD τ).loc main_arg10) : FVec Ideal S256 .f32) i))
    (n : Fin 64) (o : Fin 5) (q : Fin 128) :
    (W5 m ρ c (Proc.devRef .tc main_v30) : FVec Ideal S64x5x128 .f32) (ix3 n o q) = expected m c (ix3 n o q) := by
  have e : (W4 m ρ c (Proc.devRef .tc main_v28) : FVec Ideal S320x128 .f32) = _ :=
    (W4_arr m ρ c 13).trans (Mlp.output_array (V3 m ρ) c)
  refine (Stage.after_result (W4 m ρ c) n o q).trans ?_
  rw [e]
  have hn : (⟨(o.val * 64 + n.val) % 64, by omega⟩ : Fin 64) = n := Fin.ext (by simp only []; omega)
  have ho : (⟨(o.val * 64 + n.val) / 64, by omega⟩ : Fin 5) = o := Fin.ext (by simp only []; omega)
  refine (?_ : _ = Mlp.output (V3 m ρ c main_v3_0) (V3 m ρ c main_v14) (V3 m ρ c main_v17) (V3 m ρ c main_v18) (V3 m ρ c main_v19)
    (V3 m ρ c main_v20) (V3 m ρ c main_v21) (V3 m ρ c main_v22) (V3 m ρ c main_v23) (V3 m ρ c main_v24) (V3 m ρ c main_v25)
    (V3 m ρ c main_v26) (V3 m ρ c main_v27) n o q).trans ?_
  · exact congrArg₂ (fun n o => Mlp.output (V3 m ρ c main_v3_0) (V3 m ρ c main_v14) (V3 m ρ c main_v17) (V3 m ρ c main_v18)
      (V3 m ρ c main_v19) (V3 m ρ c main_v20) (V3 m ρ c main_v21) (V3 m ρ c main_v22) (V3 m ρ c main_v23) (V3 m ρ c main_v24)
      (V3 m ρ c main_v25) (V3 m ρ c main_v26) (V3 m ρ c main_v27) n o q) hn ho
  have a := fun b hb => W2_args m ρ c b hb
  exact Equation.output_eq _ (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) _ _ _ _ _ _ _ _ _ _ _ _ _
    (fun n ch p => rect_at m ρ c hg n ch p)
    (fun o k => (Stage.after_objects_weight (W2 m ρ c) o k).trans (congrFun (a main_arg5 (by decide)) _))
    (fun o => (Stage.after_objects_bias (W2 m ρ c) o).trans (congrFun (a main_arg6 (by decide)) _))
    (fun p k => (Stage.after_dense1_weight (W2 m ρ c) p k).trans (congrFun (a main_arg7 (by decide)) _))
    (fun k => (Stage.after_dense1_bias (W2 m ρ c) k).trans (congrFun (a main_arg8 (by decide)) _))
    (fun p k => (Stage.after_dense2_weight (W2 m ρ c) p k).trans (congrFun (a main_arg9 (by decide)) _))
    (fun k => (Stage.after_dense2_bias (W2 m ρ c) k).trans (congrFun (a main_arg10 (by decide)) _))
    (fun k => (Stage.after_row_weight (W2 m ρ c) k).trans (congrFun (a main_arg11 (by decide)) _))
    (fun k => (Stage.after_row_bias (W2 m ρ c) k).trans (congrFun (a main_arg12 (by decide)) _))
    (fun p k => (Stage.after_dense3_weight (W2 m ρ c) p k).trans (congrFun (a main_arg13 (by decide)) _))
    (fun k => (Stage.after_dense3_bias (W2 m ρ c) k).trans (congrFun (a main_arg14 (by decide)) _))
    h7 h8 h9 h10 n o q

/-- The kernel's result is the reference's stages applied to the kernel's arguments. -/
theorem result_eq (hg : ∀ i, IsReal ((m ((c : Thread nD τ).loc main_arg3) : FVec Ideal S16 .f32) i))
    (h7 : ∀ i, IsReal ((m ((c : Thread nD τ).loc main_arg7) : FVec Ideal S256x2601 .f32) i))
    (h8 : ∀ i, IsReal ((m ((c : Thread nD τ).loc main_arg8) : FVec Ideal S256 .f32) i))
    (h9 : ∀ i, IsReal ((m ((c : Thread nD τ).loc main_arg9) : FVec Ideal S256x256 .f32) i))
    (h10 : ∀ i, IsReal ((m ((c : Thread nD τ).loc main_arg10) : FVec Ideal S256 .f32) i)) :
    (W5 m ρ c (Proc.devRef .tc main_v30) : FVec Ideal S64x5x128 .f32) = expected m c := by
  funext y
  idx_vars y
  exact result_at m ρ c hg h7 h8 h9 h10 _ _ _

end Cert.Proof.Contents

end
-- ==== Proof.Run.lean ====
module

public import proofs.«01_k».proof.Proof.Gen.KernelIdeal.Frame
public import Idealize.ShloMosaic.PureOps.Ideal
public import Idealize.ShloMosaic.Adequacy
public import Idealize.ShloMosaic.Init

@[expose] public section

set_option maxRecDepth 16384

noncomputable section

namespace Cert.Proof.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resources a run of the kernel is described by. -/
abbrev Res : Type _ := MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel runs to its end: its result array holds what the last host operations leave in it, its arguments are unchanged and
    every semaphore is at zero. -/
theorem run : θ_run defs (onTc (τ := τ) (main (F := Ideal))) ⟨m, fun _ => 0, ρ⟩ (fun r => (∀ c : Dev nD,
      r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩), funext fun g => hz g (.inr (no_unscoped g.2))⟩)

end Cert.Proof.Launch

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefTerm
public import proofs.«01_k».proof.Proof.Scales
public import proofs.«01_k».proof.Proof.Contents
public import proofs.«01_k».proof.Proof.Run
public import Idealize.ShloMosaic.Adequacy
public import Idealize.ShloMosaic.Init

@[expose] public section

noncomputable section

namespace Cert.Proof

open Idealize.ShloMosaic Idealize.SL.Sem Cert.Kernel

/-- The reference runs, its arguments end unchanged and it declares no semaphore. -/
theorem frame_reference : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run (F := Ideal) m ρ)

/-- The reference's result is its stages applied to the kernel's arguments, when the two are launched on the same arguments. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (agree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_out0 m' c = Contents.expected m c := by
  obtain ⟨h0, h1, h2, h3, h4, h5, h6, h7, h8, h9, h10, h11, h12, h13, h14⟩ := agree
  rw [Ref.result_eq]
  unfold Contents.expected
  rw [h0, h1, h2, h3, h4, h5, h6, h7, h8, h9, h10, h11, h12, h13, h14]

/-- With finite scales the kernel and the reference leave the same result in exact arithmetic. -/
theorem value : Cert.algebraic_KernelIdeal_ReferenceIdeal_pre_finite_scales (hKernelIdeal := Cert.KernelIdeal.Gen.facts)
    (hReferenceIdeal := Cert.ReferenceIdeal.Gen.facts) (hPre_finite_scales := Scales.facts) := by
  intro m g m' g' hpre agree
  refine ⟨fun c => Contents.expected m c, ?_, ?_⟩
  · refine (θ_run _ _ _).mono (fun r h c => ⟨(h.1 c).1.trans ?_, (h.1 c).2⟩) (Launch.run m g)
    obtain ⟨hg, h7, h8, h9, h10⟩ := Scales.real_of_fn (hF := Scales.facts) _ _ _ _ _ _ _ _ _ _ _ _ _ _ _ (hpre c)
    exact Contents.result_eq m g c hg h7 h8 h9 h10
  · refine (θ_run _ _ _).mono (fun r h c => ⟨(h c).1.trans (reference_eq m m' c (agree c)), (h c).2⟩)
      (Cert.ReferenceIdeal.Value.run (F := Ideal) m' g')

/-- Every claim: the three programs run and keep their arguments, the rewritten kernel is the kernel, and with finite scales
    its result is the reference's. -/
theorem claim : Cert.Claim := ⟨Cert.Kernel.Gen.facts, Cert.KernelIdeal.Gen.facts, Cert.ReferenceIdeal.Gen.facts, Scales.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, value⟩

end Cert.Proof

end
